-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S8x4096x7168 : Shape := ⟨3, ![8, 4096, 7168]⟩
abbrev S7168x2304 : Shape := ⟨2, ![7168, 2304]⟩
abbrev S56x18 : Shape := ⟨2, ![56, 18]⟩
abbrev S_ : Shape := ⟨0, ![]⟩

class Facts : Prop where
  bcast_S_S8x4096x7168 : S_.BroadcastsInDim S8x4096x7168 (![] : Fin 0 → Fin S8x4096x7168.rank)

variable [Facts]

def fn {F : FTy → Type} [FloatOps F] (main_arg0 : FVec F S8x4096x7168 .bf16) (main_arg1 : FVec F S7168x2304 .fp8e4m3) (main_arg2 : FVec F S56x18 .f32) : IVec S8x4096x7168 1 :=
  let main_v0 : FVec F S8x4096x7168 .bf16 := Host.absf main_arg0
  let main_cst : FVec F S_ .bf16 := constant S_ .bf16 0x7F7F#16
  let main_v1 : FVec F S8x4096x7168 .bf16 := broadcastInDim S8x4096x7168 ![] bcast_S_S8x4096x7168 main_cst
  let main_v2 : IVec S8x4096x7168 1 := cmpf .ole main_v0 main_v1
  main_v2
-- ==== Kernel.lean ====
abbrev S8x4096x7168 : Shape := ⟨3, ![8, 4096, 7168]⟩
abbrev S7168x2304 : Shape := ⟨2, ![7168, 2304]⟩
abbrev S56x18 : Shape := ⟨2, ![56, 18]⟩
abbrev S28x256x2304 : Shape := ⟨3, ![28, 256, 2304]⟩
abbrev S28x2304x256 : Shape := ⟨3, ![28, 2304, 256]⟩
abbrev S56x18x1 : Shape := ⟨3, ![56, 18, 1]⟩
abbrev S56x18x128 : Shape := ⟨3, ![56, 18, 128]⟩
abbrev S32768x7168 : Shape := ⟨2, ![32768, 7168]⟩
abbrev S32768x2304 : Shape := ⟨2, ![32768, 2304]⟩
abbrev S32768x56 : Shape := ⟨2, ![32768, 56]⟩
abbrev S256x7168 : Shape := ⟨2, ![256, 7168]⟩
abbrev S256x2304 : Shape := ⟨2, ![256, 2304]⟩
abbrev S256x56 : Shape := ⟨2, ![256, 56]⟩
abbrev S28x2x256x256 : Shape := ⟨4, ![28, 2, 256, 256]⟩
abbrev S256x128 : Shape := ⟨2, ![256, 128]⟩
abbrev S56x18x256 : Shape := ⟨3, ![56, 18, 256]⟩
abbrev S2304x256 : Shape := ⟨2, ![2304, 256]⟩
abbrev S128x256 : Shape := ⟨2, ![128, 256]⟩
abbrev S256 : Shape := ⟨1, ![256]⟩
abbrev S256x1 : Shape := ⟨2, ![256, 1]⟩
abbrev S56x256 : Shape := ⟨2, ![56, 256]⟩
abbrev S1x18x128 : Shape := ⟨3, ![1, 18, 128]⟩
abbrev S18x128 : Shape := ⟨2, ![18, 128]⟩
abbrev S1x128 : Shape := ⟨2, ![1, 128]⟩
abbrev S128x128 : Shape := ⟨2, ![128, 128]⟩
abbrev S1x1x128x128 : Shape := ⟨4, ![1, 1, 128, 128]⟩
abbrev S1x1x256x256 : Shape := ⟨4, ![1, 1, 256, 256]⟩
abbrev S256x256 : Shape := ⟨2, ![256, 256]⟩
abbrev S1x128x256 : Shape := ⟨3, ![1, 128, 256]⟩
abbrev S1x1x128 : Shape := ⟨3, ![1, 1, 128]⟩

abbrev nBuf : Space → Nat
  | .hbm => 11
  | .vmem => 15
  | .smem => 0
  | _ => 0

abbrev bufTy : (tb : Table) → Fin (tcTables nBuf tb) → BufTy
  | .hbm, ⟨0, _⟩ => ⟨S8x4096x7168, .bf16⟩
  | .hbm, ⟨1, _⟩ => ⟨S7168x2304, .fp8e4m3⟩
  | .hbm, ⟨2, _⟩ => ⟨S56x18, .f32⟩
  | .hbm, ⟨3, _⟩ => ⟨S28x256x2304, .fp8e4m3⟩
  | .hbm, ⟨4, _⟩ => ⟨S28x2304x256, .fp8e4m3⟩
  | .hbm, ⟨5, _⟩ => ⟨S56x18x1, .f32⟩
  | .hbm, ⟨6, _⟩ => ⟨S56x18x128, .f32⟩
  | .hbm, ⟨7, _⟩ => ⟨S32768x7168, .bf16⟩
  | .hbm, ⟨8, _⟩ => ⟨S32768x2304, .bf16⟩
  | .hbm, ⟨9, _⟩ => ⟨S32768x7168, .fp8e4m3⟩
  | .hbm, ⟨10, _⟩ => ⟨S32768x56, .f32⟩
  | .local _ .vmem, ⟨0, _⟩ => ⟨S256x7168, .bf16⟩
  | .local _ .vmem, ⟨1, _⟩ => ⟨S256x7168, .bf16⟩
  | .local _ .vmem, ⟨2, _⟩ => ⟨S28x2304x256, .fp8e4m3⟩
  | .local _ .vmem, ⟨3, _⟩ => ⟨S56x18x128, .f32⟩
  | .local _ .vmem, ⟨4, _⟩ => ⟨S256x2304, .bf16⟩
  | .local _ .vmem, ⟨5, _⟩ => ⟨S256x2304, .bf16⟩
  | .local _ .vmem, ⟨6, _⟩ => ⟨S256x7168, .fp8e4m3⟩
  | .local _ .vmem, ⟨7, _⟩ => ⟨S256x7168, .fp8e4m3⟩
  | .local _ .vmem, ⟨8, _⟩ => ⟨S256x56, .f32⟩
  | .local _ .vmem, ⟨9, _⟩ => ⟨S256x56, .f32⟩
  | .local _ .vmem, ⟨10, _⟩ => ⟨S28x2x256x256, .fp8e4m3⟩
  | .local _ .vmem, ⟨11, _⟩ => ⟨S256x128, .f32⟩
  | .local _ .vmem, ⟨12, _⟩ => ⟨S256x128, .f32⟩
  | .local _ .vmem, ⟨13, _⟩ => ⟨S56x18x256, .f32⟩
  | .local _ .vmem, ⟨14, _⟩ => ⟨S2304x256, .f32⟩
  | _, _ => ⟨S8x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

@[reducible] def k0_t1_loop : Scf.Loop 32 :=
  let c1_i32_3250_r0 : BitVec 32 := 1#32
  let c5_i32_r0 : BitVec 32 := 5#32
  let v5008_r0 : BitVec 32 := Scalar.addi c1_i32_3250_r0 c5_i32_r0
  let c1_i32_3251_r0 : BitVec 32 := 1#32
  ⟨c1_i32_3250_r0, v5008_r0, c1_i32_3251_r0⟩
def k0_off1 (k0_t1 : Fin k0_t1_loop.trips) (c0_i32_5078_r0 : BitVec 32) : Fin 3 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v7934_r0 : BitVec 32 := Scalar.addi v7933_r0 c0_i32_5078_r0
  let v7935_r0 : Index := Scalar.indexCast v7934_r0
  let c0_5079_r0 : Index := 0#32
  let c0_5080_r0 : Index := 0#32
  ![v7935_r0.toNat, 0, 0]
def k0_off2 (k0_t1 : Fin k0_t1_loop.trips) (c0_i32_5081_r0 : BitVec 32) : Fin 4 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v7939_r0 : BitVec 32 := Scalar.addi v7933_r0 c0_i32_5081_r0
  let c1_i32_5082_r0 : BitVec 32 := 1#32
  let v7940_r0 : BitVec 32 := Scalar.addi v7939_r0 c1_i32_5082_r0
  let v7941_r0 : Index := Scalar.indexCast v7940_r0
  let c0_5083_r0 : Index := 0#32
  let c0_5084_r0 : Index := 0#32
  let c0_5085_r0 : Index := 0#32
  ![v7941_r0.toNat, 0, 0, 0]
def k0_off3 (k0_t1 : Fin k0_t1_loop.trips) (c0_i32_5081_r0 : BitVec 32) : Fin 4 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v7939_r0 : BitVec 32 := Scalar.addi v7933_r0 c0_i32_5081_r0
  let c1_i32_5082_r0 : BitVec 32 := 1#32
  let v7940_r0 : BitVec 32 := Scalar.addi v7939_r0 c1_i32_5082_r0
  let v7945_r0 : Index := Scalar.indexCast v7940_r0
  let c1_5086_r0 : Index := 1#32
  let c0_5087_r0 : Index := 0#32
  let c0_5088_r0 : Index := 0#32
  ![v7945_r0.toNat, 1, 0, 0]
def k0_off4 (k0_t1 : Fin k0_t1_loop.trips) (c_m1_i32_r0 : BitVec 32) : Fin 3 → Nat :=
  let c2_i32_5089_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v7949_r0 : BitVec 32 := Scalar.addi v7933_r0 c_m1_i32_r0
  let v7952_r0 : BitVec 32 := Scalar.muli c2_i32_5089_r0 v7949_r0
  let v7953_r0 : Index := Scalar.indexCast v7952_r0
  let c11_5090_r0 : Index := 11#32
  let c0_5091_r0 : Index := 0#32
  ![v7953_r0.toNat, 11, 0]
def k0_off4_at (r : Fin 4) : BitVec 32 :=
  if r.val < 2 then
    if r.val < 1 then
      4294967295#32
    else
      0#32
  else
    if r.val < 3 then
      1#32
    else
      2#32
def k0_off5 (k0_t1 : Fin k0_t1_loop.trips) (c_m1_i32_r0 : BitVec 32) : Fin 3 → Nat :=
  let c2_i32_5092_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v7949_r0 : BitVec 32 := Scalar.addi v7933_r0 c_m1_i32_r0
  let v7959_r0 : BitVec 32 := Scalar.muli c2_i32_5092_r0 v7949_r0
  let c1_i32_5093_r0 : BitVec 32 := 1#32
  let v7960_r0 : BitVec 32 := Scalar.addi v7959_r0 c1_i32_5093_r0
  let v7961_r0 : Index := Scalar.indexCast v7960_r0
  let c11_5094_r0 : Index := 11#32
  let c0_5095_r0 : Index := 0#32
  ![v7961_r0.toNat, 11, 0]
def k0_off5_at (r : Fin 4) : BitVec 32 :=
  if r.val < 2 then
    if r.val < 1 then
      4294967295#32
    else
      0#32
  else
    if r.val < 3 then
      1#32
    else
      2#32
def k0_off6 (k0_t1 : Fin k0_t1_loop.trips) (c_m1_i32_r0 : BitVec 32) : Fin 3 → Nat :=
  let c2_i32_5100_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v7949_r0 : BitVec 32 := Scalar.addi v7933_r0 c_m1_i32_r0
  let v7974_r0 : BitVec 32 := Scalar.muli c2_i32_5100_r0 v7949_r0
  let v7975_r0 : Index := Scalar.indexCast v7974_r0
  let c11_5101_r0 : Index := 11#32
  let c128_5102_r0 : Index := 128#32
  ![v7975_r0.toNat, 11, 128]
def k0_off6_at (r : Fin 4) : BitVec 32 :=
  if r.val < 2 then
    if r.val < 1 then
      4294967295#32
    else
      0#32
  else
    if r.val < 3 then
      1#32
    else
      2#32
def k0_off7 (k0_t1 : Fin k0_t1_loop.trips) (c_m1_i32_r0 : BitVec 32) : Fin 3 → Nat :=
  let c2_i32_5103_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v7949_r0 : BitVec 32 := Scalar.addi v7933_r0 c_m1_i32_r0
  let v7981_r0 : BitVec 32 := Scalar.muli c2_i32_5103_r0 v7949_r0
  let c1_i32_5104_r0 : BitVec 32 := 1#32
  let v7982_r0 : BitVec 32 := Scalar.addi v7981_r0 c1_i32_5104_r0
  let v7983_r0 : Index := Scalar.indexCast v7982_r0
  let c11_5105_r0 : Index := 11#32
  let c128_5106_r0 : Index := 128#32
  ![v7983_r0.toNat, 11, 128]
def k0_off7_at (r : Fin 4) : BitVec 32 :=
  if r.val < 2 then
    if r.val < 1 then
      4294967295#32
    else
      0#32
  else
    if r.val < 3 then
      1#32
    else
      2#32
def k0_off8 (k0_t1 : Fin k0_t1_loop.trips) (c0_i32_5111_r0 : BitVec 32) : Fin 3 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v7994_r0 : BitVec 32 := Scalar.addi v7933_r0 c0_i32_5111_r0
  let v7995_r0 : Index := Scalar.indexCast v7994_r0
  let c128_5112_r0 : Index := 128#32
  let c0_5113_r0 : Index := 0#32
  ![v7995_r0.toNat, 128, 0]
def k0_off9 (k0_t1 : Fin k0_t1_loop.trips) (c_m1_i32_5114_r0 : BitVec 32) : Fin 3 → Nat :=
  let c2_i32_5115_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v7999_r0 : BitVec 32 := Scalar.addi v7933_r0 c_m1_i32_5114_r0
  let v8002_r0 : BitVec 32 := Scalar.muli c2_i32_5115_r0 v7999_r0
  let v8003_r0 : Index := Scalar.indexCast v8002_r0
  let c12_5116_r0 : Index := 12#32
  let c0_5117_r0 : Index := 0#32
  ![v8003_r0.toNat, 12, 0]
def k0_off9_at (r : Fin 4) : BitVec 32 :=
  if r.val < 2 then
    if r.val < 1 then
      4294967295#32
    else
      0#32
  else
    if r.val < 3 then
      1#32
    else
      2#32
def k0_off10 (k0_t1 : Fin k0_t1_loop.trips) (c_m1_i32_5114_r0 : BitVec 32) : Fin 3 → Nat :=
  let c2_i32_5118_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v7999_r0 : BitVec 32 := Scalar.addi v7933_r0 c_m1_i32_5114_r0
  let v8009_r0 : BitVec 32 := Scalar.muli c2_i32_5118_r0 v7999_r0
  let c1_i32_5119_r0 : BitVec 32 := 1#32
  let v8010_r0 : BitVec 32 := Scalar.addi v8009_r0 c1_i32_5119_r0
  let v8011_r0 : Index := Scalar.indexCast v8010_r0
  let c12_5120_r0 : Index := 12#32
  let c0_5121_r0 : Index := 0#32
  ![v8011_r0.toNat, 12, 0]
def k0_off10_at (r : Fin 4) : BitVec 32 :=
  if r.val < 2 then
    if r.val < 1 then
      4294967295#32
    else
      0#32
  else
    if r.val < 3 then
      1#32
    else
      2#32
def k0_off11 (k0_t1 : Fin k0_t1_loop.trips) (c_m1_i32_5114_r0 : BitVec 32) : Fin 3 → Nat :=
  let c2_i32_5126_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v7999_r0 : BitVec 32 := Scalar.addi v7933_r0 c_m1_i32_5114_r0
  let v8024_r0 : BitVec 32 := Scalar.muli c2_i32_5126_r0 v7999_r0
  let v8025_r0 : Index := Scalar.indexCast v8024_r0
  let c12_5127_r0 : Index := 12#32
  let c128_5128_r0 : Index := 128#32
  ![v8025_r0.toNat, 12, 128]
def k0_off11_at (r : Fin 4) : BitVec 32 :=
  if r.val < 2 then
    if r.val < 1 then
      4294967295#32
    else
      0#32
  else
    if r.val < 3 then
      1#32
    else
      2#32
def k0_off12 (k0_t1 : Fin k0_t1_loop.trips) (c_m1_i32_5114_r0 : BitVec 32) : Fin 3 → Nat :=
  let c2_i32_5129_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v7999_r0 : BitVec 32 := Scalar.addi v7933_r0 c_m1_i32_5114_r0
  let v8031_r0 : BitVec 32 := Scalar.muli c2_i32_5129_r0 v7999_r0
  let c1_i32_5130_r0 : BitVec 32 := 1#32
  let v8032_r0 : BitVec 32 := Scalar.addi v8031_r0 c1_i32_5130_r0
  let v8033_r0 : Index := Scalar.indexCast v8032_r0
  let c12_5131_r0 : Index := 12#32
  let c128_5132_r0 : Index := 128#32
  ![v8033_r0.toNat, 12, 128]
def k0_off12_at (r : Fin 4) : BitVec 32 :=
  if r.val < 2 then
    if r.val < 1 then
      4294967295#32
    else
      0#32
  else
    if r.val < 3 then
      1#32
    else
      2#32
def k0_off13 (k0_t1 : Fin k0_t1_loop.trips) (c0_i32_5137_r0 : BitVec 32) : Fin 3 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8044_r0 : BitVec 32 := Scalar.addi v7933_r0 c0_i32_5137_r0
  let v8045_r0 : Index := Scalar.indexCast v8044_r0
  let c256_5138_r0 : Index := 256#32
  let c0_5139_r0 : Index := 0#32
  ![v8045_r0.toNat, 256, 0]
def k0_off14 (k0_t1 : Fin k0_t1_loop.trips) (c_m1_i32_5140_r0 : BitVec 32) : Fin 3 → Nat :=
  let c2_i32_5141_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8049_r0 : BitVec 32 := Scalar.addi v7933_r0 c_m1_i32_5140_r0
  let v8052_r0 : BitVec 32 := Scalar.muli c2_i32_5141_r0 v8049_r0
  let v8053_r0 : Index := Scalar.indexCast v8052_r0
  let c13_5142_r0 : Index := 13#32
  let c0_5143_r0 : Index := 0#32
  ![v8053_r0.toNat, 13, 0]
def k0_off14_at (r : Fin 4) : BitVec 32 :=
  if r.val < 2 then
    if r.val < 1 then
      4294967295#32
    else
      0#32
  else
    if r.val < 3 then
      1#32
    else
      2#32
def k0_off15 (k0_t1 : Fin k0_t1_loop.trips) (c_m1_i32_5140_r0 : BitVec 32) : Fin 3 → Nat :=
  let c2_i32_5144_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8049_r0 : BitVec 32 := Scalar.addi v7933_r0 c_m1_i32_5140_r0
  let v8059_r0 : BitVec 32 := Scalar.muli c2_i32_5144_r0 v8049_r0
  let c1_i32_5145_r0 : BitVec 32 := 1#32
  let v8060_r0 : BitVec 32 := Scalar.addi v8059_r0 c1_i32_5145_r0
  let v8061_r0 : Index := Scalar.indexCast v8060_r0
  let c13_5146_r0 : Index := 13#32
  let c0_5147_r0 : Index := 0#32
  ![v8061_r0.toNat, 13, 0]
def k0_off15_at (r : Fin 4) : BitVec 32 :=
  if r.val < 2 then
    if r.val < 1 then
      4294967295#32
    else
      0#32
  else
    if r.val < 3 then
      1#32
    else
      2#32
def k0_off16 (k0_t1 : Fin k0_t1_loop.trips) (c_m1_i32_5140_r0 : BitVec 32) : Fin 3 → Nat :=
  let c2_i32_5152_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8049_r0 : BitVec 32 := Scalar.addi v7933_r0 c_m1_i32_5140_r0
  let v8074_r0 : BitVec 32 := Scalar.muli c2_i32_5152_r0 v8049_r0
  let v8075_r0 : Index := Scalar.indexCast v8074_r0
  let c13_5153_r0 : Index := 13#32
  let c128_5154_r0 : Index := 128#32
  ![v8075_r0.toNat, 13, 128]
def k0_off16_at (r : Fin 4) : BitVec 32 :=
  if r.val < 2 then
    if r.val < 1 then
      4294967295#32
    else
      0#32
  else
    if r.val < 3 then
      1#32
    else
      2#32
def k0_off17 (k0_t1 : Fin k0_t1_loop.trips) (c_m1_i32_5140_r0 : BitVec 32) : Fin 3 → Nat :=
  let c2_i32_5155_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8049_r0 : BitVec 32 := Scalar.addi v7933_r0 c_m1_i32_5140_r0
  let v8081_r0 : BitVec 32 := Scalar.muli c2_i32_5155_r0 v8049_r0
  let c1_i32_5156_r0 : BitVec 32 := 1#32
  let v8082_r0 : BitVec 32 := Scalar.addi v8081_r0 c1_i32_5156_r0
  let v8083_r0 : Index := Scalar.indexCast v8082_r0
  let c13_5157_r0 : Index := 13#32
  let c128_5158_r0 : Index := 128#32
  ![v8083_r0.toNat, 13, 128]
def k0_off17_at (r : Fin 4) : BitVec 32 :=
  if r.val < 2 then
    if r.val < 1 then
      4294967295#32
    else
      0#32
  else
    if r.val < 3 then
      1#32
    else
      2#32
def k0_off18 (k0_t1 : Fin k0_t1_loop.trips) (c0_i32_5163_r0 : BitVec 32) : Fin 3 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8094_r0 : BitVec 32 := Scalar.addi v7933_r0 c0_i32_5163_r0
  let v8095_r0 : Index := Scalar.indexCast v8094_r0
  let c384_5164_r0 : Index := 384#32
  let c0_5165_r0 : Index := 0#32
  ![v8095_r0.toNat, 384, 0]
def k0_off19 (k0_t1 : Fin k0_t1_loop.trips) (c_m1_i32_5166_r0 : BitVec 32) : Fin 3 → Nat :=
  let c2_i32_5167_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8099_r0 : BitVec 32 := Scalar.addi v7933_r0 c_m1_i32_5166_r0
  let v8102_r0 : BitVec 32 := Scalar.muli c2_i32_5167_r0 v8099_r0
  let v8103_r0 : Index := Scalar.indexCast v8102_r0
  let c14_5168_r0 : Index := 14#32
  let c0_5169_r0 : Index := 0#32
  ![v8103_r0.toNat, 14, 0]
def k0_off19_at (r : Fin 4) : BitVec 32 :=
  if r.val < 2 then
    if r.val < 1 then
      4294967295#32
    else
      0#32
  else
    if r.val < 3 then
      1#32
    else
      2#32
def k0_off20 (k0_t1 : Fin k0_t1_loop.trips) (c_m1_i32_5166_r0 : BitVec 32) : Fin 3 → Nat :=
  let c2_i32_5170_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8099_r0 : BitVec 32 := Scalar.addi v7933_r0 c_m1_i32_5166_r0
  let v8109_r0 : BitVec 32 := Scalar.muli c2_i32_5170_r0 v8099_r0
  let c1_i32_5171_r0 : BitVec 32 := 1#32
  let v8110_r0 : BitVec 32 := Scalar.addi v8109_r0 c1_i32_5171_r0
  let v8111_r0 : Index := Scalar.indexCast v8110_r0
  let c14_5172_r0 : Index := 14#32
  let c0_5173_r0 : Index := 0#32
  ![v8111_r0.toNat, 14, 0]
def k0_off20_at (r : Fin 4) : BitVec 32 :=
  if r.val < 2 then
    if r.val < 1 then
      4294967295#32
    else
      0#32
  else
    if r.val < 3 then
      1#32
    else
      2#32
def k0_off21 (k0_t1 : Fin k0_t1_loop.trips) (c_m1_i32_5166_r0 : BitVec 32) : Fin 3 → Nat :=
  let c2_i32_5178_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8099_r0 : BitVec 32 := Scalar.addi v7933_r0 c_m1_i32_5166_r0
  let v8124_r0 : BitVec 32 := Scalar.muli c2_i32_5178_r0 v8099_r0
  let v8125_r0 : Index := Scalar.indexCast v8124_r0
  let c14_5179_r0 : Index := 14#32
  let c128_5180_r0 : Index := 128#32
  ![v8125_r0.toNat, 14, 128]
def k0_off21_at (r : Fin 4) : BitVec 32 :=
  if r.val < 2 then
    if r.val < 1 then
      4294967295#32
    else
      0#32
  else
    if r.val < 3 then
      1#32
    else
      2#32
def k0_off22 (k0_t1 : Fin k0_t1_loop.trips) (c_m1_i32_5166_r0 : BitVec 32) : Fin 3 → Nat :=
  let c2_i32_5181_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8099_r0 : BitVec 32 := Scalar.addi v7933_r0 c_m1_i32_5166_r0
  let v8131_r0 : BitVec 32 := Scalar.muli c2_i32_5181_r0 v8099_r0
  let c1_i32_5182_r0 : BitVec 32 := 1#32
  let v8132_r0 : BitVec 32 := Scalar.addi v8131_r0 c1_i32_5182_r0
  let v8133_r0 : Index := Scalar.indexCast v8132_r0
  let c14_5183_r0 : Index := 14#32
  let c128_5184_r0 : Index := 128#32
  ![v8133_r0.toNat, 14, 128]
def k0_off22_at (r : Fin 4) : BitVec 32 :=
  if r.val < 2 then
    if r.val < 1 then
      4294967295#32
    else
      0#32
  else
    if r.val < 3 then
      1#32
    else
      2#32
def k0_off23 (k0_t1 : Fin k0_t1_loop.trips) (c0_i32_5189_r0 : BitVec 32) : Fin 3 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8144_r0 : BitVec 32 := Scalar.addi v7933_r0 c0_i32_5189_r0
  let v8145_r0 : Index := Scalar.indexCast v8144_r0
  let c512_5190_r0 : Index := 512#32
  let c0_5191_r0 : Index := 0#32
  ![v8145_r0.toNat, 512, 0]
def k0_off24 (k0_t1 : Fin k0_t1_loop.trips) (c_m1_i32_5192_r0 : BitVec 32) : Fin 3 → Nat :=
  let c2_i32_5193_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8149_r0 : BitVec 32 := Scalar.addi v7933_r0 c_m1_i32_5192_r0
  let v8152_r0 : BitVec 32 := Scalar.muli c2_i32_5193_r0 v8149_r0
  let v8153_r0 : Index := Scalar.indexCast v8152_r0
  let c15_5194_r0 : Index := 15#32
  let c0_5195_r0 : Index := 0#32
  ![v8153_r0.toNat, 15, 0]
def k0_off24_at (r : Fin 4) : BitVec 32 :=
  if r.val < 2 then
    if r.val < 1 then
      4294967295#32
    else
      0#32
  else
    if r.val < 3 then
      1#32
    else
      2#32
def k0_off25 (k0_t1 : Fin k0_t1_loop.trips) (c_m1_i32_5192_r0 : BitVec 32) : Fin 3 → Nat :=
  let c2_i32_5196_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8149_r0 : BitVec 32 := Scalar.addi v7933_r0 c_m1_i32_5192_r0
  let v8159_r0 : BitVec 32 := Scalar.muli c2_i32_5196_r0 v8149_r0
  let c1_i32_5197_r0 : BitVec 32 := 1#32
  let v8160_r0 : BitVec 32 := Scalar.addi v8159_r0 c1_i32_5197_r0
  let v8161_r0 : Index := Scalar.indexCast v8160_r0
  let c15_5198_r0 : Index := 15#32
  let c0_5199_r0 : Index := 0#32
  ![v8161_r0.toNat, 15, 0]
def k0_off25_at (r : Fin 4) : BitVec 32 :=
  if r.val < 2 then
    if r.val < 1 then
      4294967295#32
    else
      0#32
  else
    if r.val < 3 then
      1#32
    else
      2#32
def k0_off26 (k0_t1 : Fin k0_t1_loop.trips) (c_m1_i32_5192_r0 : BitVec 32) : Fin 3 → Nat :=
  let c2_i32_5204_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8149_r0 : BitVec 32 := Scalar.addi v7933_r0 c_m1_i32_5192_r0
  let v8174_r0 : BitVec 32 := Scalar.muli c2_i32_5204_r0 v8149_r0
  let v8175_r0 : Index := Scalar.indexCast v8174_r0
  let c15_5205_r0 : Index := 15#32
  let c128_5206_r0 : Index := 128#32
  ![v8175_r0.toNat, 15, 128]
def k0_off26_at (r : Fin 4) : BitVec 32 :=
  if r.val < 2 then
    if r.val < 1 then
      4294967295#32
    else
      0#32
  else
    if r.val < 3 then
      1#32
    else
      2#32
def k0_off27 (k0_t1 : Fin k0_t1_loop.trips) (c_m1_i32_5192_r0 : BitVec 32) : Fin 3 → Nat :=
  let c2_i32_5207_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8149_r0 : BitVec 32 := Scalar.addi v7933_r0 c_m1_i32_5192_r0
  let v8181_r0 : BitVec 32 := Scalar.muli c2_i32_5207_r0 v8149_r0
  let c1_i32_5208_r0 : BitVec 32 := 1#32
  let v8182_r0 : BitVec 32 := Scalar.addi v8181_r0 c1_i32_5208_r0
  let v8183_r0 : Index := Scalar.indexCast v8182_r0
  let c15_5209_r0 : Index := 15#32
  let c128_5210_r0 : Index := 128#32
  ![v8183_r0.toNat, 15, 128]
def k0_off27_at (r : Fin 4) : BitVec 32 :=
  if r.val < 2 then
    if r.val < 1 then
      4294967295#32
    else
      0#32
  else
    if r.val < 3 then
      1#32
    else
      2#32
def k0_off28 (k0_t1 : Fin k0_t1_loop.trips) (c0_i32_5215_r0 : BitVec 32) : Fin 3 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8194_r0 : BitVec 32 := Scalar.addi v7933_r0 c0_i32_5215_r0
  let v8195_r0 : Index := Scalar.indexCast v8194_r0
  let c640_5216_r0 : Index := 640#32
  let c0_5217_r0 : Index := 0#32
  ![v8195_r0.toNat, 640, 0]
def k0_off29 (k0_t1 : Fin k0_t1_loop.trips) (c_m1_i32_5218_r0 : BitVec 32) : Fin 3 → Nat :=
  let c2_i32_5219_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8199_r0 : BitVec 32 := Scalar.addi v7933_r0 c_m1_i32_5218_r0
  let v8202_r0 : BitVec 32 := Scalar.muli c2_i32_5219_r0 v8199_r0
  let v8203_r0 : Index := Scalar.indexCast v8202_r0
  let c16_5220_r0 : Index := 16#32
  let c0_5221_r0 : Index := 0#32
  ![v8203_r0.toNat, 16, 0]
def k0_off29_at (r : Fin 4) : BitVec 32 :=
  if r.val < 2 then
    if r.val < 1 then
      4294967295#32
    else
      0#32
  else
    if r.val < 3 then
      1#32
    else
      2#32
def k0_off30 (k0_t1 : Fin k0_t1_loop.trips) (c_m1_i32_5218_r0 : BitVec 32) : Fin 3 → Nat :=
  let c2_i32_5222_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8199_r0 : BitVec 32 := Scalar.addi v7933_r0 c_m1_i32_5218_r0
  let v8209_r0 : BitVec 32 := Scalar.muli c2_i32_5222_r0 v8199_r0
  let c1_i32_5223_r0 : BitVec 32 := 1#32
  let v8210_r0 : BitVec 32 := Scalar.addi v8209_r0 c1_i32_5223_r0
  let v8211_r0 : Index := Scalar.indexCast v8210_r0
  let c16_5224_r0 : Index := 16#32
  let c0_5225_r0 : Index := 0#32
  ![v8211_r0.toNat, 16, 0]
def k0_off30_at (r : Fin 4) : BitVec 32 :=
  if r.val < 2 then
    if r.val < 1 then
      4294967295#32
    else
      0#32
  else
    if r.val < 3 then
      1#32
    else
      2#32
def k0_off31 (k0_t1 : Fin k0_t1_loop.trips) (c_m1_i32_5218_r0 : BitVec 32) : Fin 3 → Nat :=
  let c2_i32_5230_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8199_r0 : BitVec 32 := Scalar.addi v7933_r0 c_m1_i32_5218_r0
  let v8224_r0 : BitVec 32 := Scalar.muli c2_i32_5230_r0 v8199_r0
  let v8225_r0 : Index := Scalar.indexCast v8224_r0
  let c16_5231_r0 : Index := 16#32
  let c128_5232_r0 : Index := 128#32
  ![v8225_r0.toNat, 16, 128]
def k0_off31_at (r : Fin 4) : BitVec 32 :=
  if r.val < 2 then
    if r.val < 1 then
      4294967295#32
    else
      0#32
  else
    if r.val < 3 then
      1#32
    else
      2#32
def k0_off32 (k0_t1 : Fin k0_t1_loop.trips) (c_m1_i32_5218_r0 : BitVec 32) : Fin 3 → Nat :=
  let c2_i32_5233_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8199_r0 : BitVec 32 := Scalar.addi v7933_r0 c_m1_i32_5218_r0
  let v8231_r0 : BitVec 32 := Scalar.muli c2_i32_5233_r0 v8199_r0
  let c1_i32_5234_r0 : BitVec 32 := 1#32
  let v8232_r0 : BitVec 32 := Scalar.addi v8231_r0 c1_i32_5234_r0
  let v8233_r0 : Index := Scalar.indexCast v8232_r0
  let c16_5235_r0 : Index := 16#32
  let c128_5236_r0 : Index := 128#32
  ![v8233_r0.toNat, 16, 128]
def k0_off32_at (r : Fin 4) : BitVec 32 :=
  if r.val < 2 then
    if r.val < 1 then
      4294967295#32
    else
      0#32
  else
    if r.val < 3 then
      1#32
    else
      2#32
def k0_off33 (k0_t1 : Fin k0_t1_loop.trips) (c0_i32_5241_r0 : BitVec 32) : Fin 3 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8244_r0 : BitVec 32 := Scalar.addi v7933_r0 c0_i32_5241_r0
  let v8245_r0 : Index := Scalar.indexCast v8244_r0
  let c768_5242_r0 : Index := 768#32
  let c0_5243_r0 : Index := 0#32
  ![v8245_r0.toNat, 768, 0]
def k0_off34 (k0_t1 : Fin k0_t1_loop.trips) (c_m1_i32_5244_r0 : BitVec 32) : Fin 3 → Nat :=
  let c2_i32_5245_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8249_r0 : BitVec 32 := Scalar.addi v7933_r0 c_m1_i32_5244_r0
  let v8252_r0 : BitVec 32 := Scalar.muli c2_i32_5245_r0 v8249_r0
  let v8253_r0 : Index := Scalar.indexCast v8252_r0
  let c17_5246_r0 : Index := 17#32
  let c0_5247_r0 : Index := 0#32
  ![v8253_r0.toNat, 17, 0]
def k0_off34_at (r : Fin 4) : BitVec 32 :=
  if r.val < 2 then
    if r.val < 1 then
      4294967295#32
    else
      0#32
  else
    if r.val < 3 then
      1#32
    else
      2#32
def k0_off35 (k0_t1 : Fin k0_t1_loop.trips) (c_m1_i32_5244_r0 : BitVec 32) : Fin 3 → Nat :=
  let c2_i32_5248_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8249_r0 : BitVec 32 := Scalar.addi v7933_r0 c_m1_i32_5244_r0
  let v8259_r0 : BitVec 32 := Scalar.muli c2_i32_5248_r0 v8249_r0
  let c1_i32_5249_r0 : BitVec 32 := 1#32
  let v8260_r0 : BitVec 32 := Scalar.addi v8259_r0 c1_i32_5249_r0
  let v8261_r0 : Index := Scalar.indexCast v8260_r0
  let c17_5250_r0 : Index := 17#32
  let c0_5251_r0 : Index := 0#32
  ![v8261_r0.toNat, 17, 0]
def k0_off35_at (r : Fin 4) : BitVec 32 :=
  if r.val < 2 then
    if r.val < 1 then
      4294967295#32
    else
      0#32
  else
    if r.val < 3 then
      1#32
    else
      2#32
def k0_off36 (k0_t1 : Fin k0_t1_loop.trips) (c_m1_i32_5244_r0 : BitVec 32) : Fin 3 → Nat :=
  let c2_i32_5256_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8249_r0 : BitVec 32 := Scalar.addi v7933_r0 c_m1_i32_5244_r0
  let v8274_r0 : BitVec 32 := Scalar.muli c2_i32_5256_r0 v8249_r0
  let v8275_r0 : Index := Scalar.indexCast v8274_r0
  let c17_5257_r0 : Index := 17#32
  let c128_5258_r0 : Index := 128#32
  ![v8275_r0.toNat, 17, 128]
def k0_off36_at (r : Fin 4) : BitVec 32 :=
  if r.val < 2 then
    if r.val < 1 then
      4294967295#32
    else
      0#32
  else
    if r.val < 3 then
      1#32
    else
      2#32
def k0_off37 (k0_t1 : Fin k0_t1_loop.trips) (c_m1_i32_5244_r0 : BitVec 32) : Fin 3 → Nat :=
  let c2_i32_5259_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8249_r0 : BitVec 32 := Scalar.addi v7933_r0 c_m1_i32_5244_r0
  let v8281_r0 : BitVec 32 := Scalar.muli c2_i32_5259_r0 v8249_r0
  let c1_i32_5260_r0 : BitVec 32 := 1#32
  let v8282_r0 : BitVec 32 := Scalar.addi v8281_r0 c1_i32_5260_r0
  let v8283_r0 : Index := Scalar.indexCast v8282_r0
  let c17_5261_r0 : Index := 17#32
  let c128_5262_r0 : Index := 128#32
  ![v8283_r0.toNat, 17, 128]
def k0_off37_at (r : Fin 4) : BitVec 32 :=
  if r.val < 2 then
    if r.val < 1 then
      4294967295#32
    else
      0#32
  else
    if r.val < 3 then
      1#32
    else
      2#32
def k0_off38 (k0_t1 : Fin k0_t1_loop.trips) (c0_i32_5267_r0 : BitVec 32) : Fin 3 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8294_r0 : BitVec 32 := Scalar.addi v7933_r0 c0_i32_5267_r0
  let v8295_r0 : Index := Scalar.indexCast v8294_r0
  let c896_5268_r0 : Index := 896#32
  let c0_5269_r0 : Index := 0#32
  ![v8295_r0.toNat, 896, 0]
def k0_off39 (k0_t1 : Fin k0_t1_loop.trips) (c0_i32_5270_r0 : BitVec 32) : Fin 3 → Nat :=
  let c2_i32_5271_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8299_r0 : BitVec 32 := Scalar.addi v7933_r0 c0_i32_5270_r0
  let v8302_r0 : BitVec 32 := Scalar.muli c2_i32_5271_r0 v8299_r0
  let v8303_r0 : Index := Scalar.indexCast v8302_r0
  let c0_5272_r0 : Index := 0#32
  let c0_5273_r0 : Index := 0#32
  ![v8303_r0.toNat, 0, 0]
def k0_off40 (k0_t1 : Fin k0_t1_loop.trips) (c0_i32_5270_r0 : BitVec 32) : Fin 3 → Nat :=
  let c2_i32_5274_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8299_r0 : BitVec 32 := Scalar.addi v7933_r0 c0_i32_5270_r0
  let v8309_r0 : BitVec 32 := Scalar.muli c2_i32_5274_r0 v8299_r0
  let c1_i32_5275_r0 : BitVec 32 := 1#32
  let v8310_r0 : BitVec 32 := Scalar.addi v8309_r0 c1_i32_5275_r0
  let v8311_r0 : Index := Scalar.indexCast v8310_r0
  let c0_5276_r0 : Index := 0#32
  let c0_5277_r0 : Index := 0#32
  ![v8311_r0.toNat, 0, 0]
def k0_off41 (k0_t1 : Fin k0_t1_loop.trips) (c0_i32_5270_r0 : BitVec 32) : Fin 3 → Nat :=
  let c2_i32_5282_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8299_r0 : BitVec 32 := Scalar.addi v7933_r0 c0_i32_5270_r0
  let v8324_r0 : BitVec 32 := Scalar.muli c2_i32_5282_r0 v8299_r0
  let v8325_r0 : Index := Scalar.indexCast v8324_r0
  let c0_5283_r0 : Index := 0#32
  let c128_5284_r0 : Index := 128#32
  ![v8325_r0.toNat, 0, 128]
def k0_off42 (k0_t1 : Fin k0_t1_loop.trips) (c0_i32_5270_r0 : BitVec 32) : Fin 3 → Nat :=
  let c2_i32_5285_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8299_r0 : BitVec 32 := Scalar.addi v7933_r0 c0_i32_5270_r0
  let v8331_r0 : BitVec 32 := Scalar.muli c2_i32_5285_r0 v8299_r0
  let c1_i32_5286_r0 : BitVec 32 := 1#32
  let v8332_r0 : BitVec 32 := Scalar.addi v8331_r0 c1_i32_5286_r0
  let v8333_r0 : Index := Scalar.indexCast v8332_r0
  let c0_5287_r0 : Index := 0#32
  let c128_5288_r0 : Index := 128#32
  ![v8333_r0.toNat, 0, 128]
def k0_off43 (k0_t1 : Fin k0_t1_loop.trips) (c0_i32_5293_r0 : BitVec 32) : Fin 3 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8344_r0 : BitVec 32 := Scalar.addi v7933_r0 c0_i32_5293_r0
  let v8345_r0 : Index := Scalar.indexCast v8344_r0
  let c1024_5294_r0 : Index := 1024#32
  let c0_5295_r0 : Index := 0#32
  ![v8345_r0.toNat, 1024, 0]
def k0_off44 (k0_t1 : Fin k0_t1_loop.trips) (c0_i32_5296_r0 : BitVec 32) : Fin 3 → Nat :=
  let c2_i32_5297_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8349_r0 : BitVec 32 := Scalar.addi v7933_r0 c0_i32_5296_r0
  let v8352_r0 : BitVec 32 := Scalar.muli c2_i32_5297_r0 v8349_r0
  let v8353_r0 : Index := Scalar.indexCast v8352_r0
  let c1_5298_r0 : Index := 1#32
  let c0_5299_r0 : Index := 0#32
  ![v8353_r0.toNat, 1, 0]
def k0_off45 (k0_t1 : Fin k0_t1_loop.trips) (c0_i32_5296_r0 : BitVec 32) : Fin 3 → Nat :=
  let c2_i32_5300_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8349_r0 : BitVec 32 := Scalar.addi v7933_r0 c0_i32_5296_r0
  let v8359_r0 : BitVec 32 := Scalar.muli c2_i32_5300_r0 v8349_r0
  let c1_i32_5301_r0 : BitVec 32 := 1#32
  let v8360_r0 : BitVec 32 := Scalar.addi v8359_r0 c1_i32_5301_r0
  let v8361_r0 : Index := Scalar.indexCast v8360_r0
  let c1_5302_r0 : Index := 1#32
  let c0_5303_r0 : Index := 0#32
  ![v8361_r0.toNat, 1, 0]
def k0_off46 (k0_t1 : Fin k0_t1_loop.trips) (c0_i32_5296_r0 : BitVec 32) : Fin 3 → Nat :=
  let c2_i32_5308_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8349_r0 : BitVec 32 := Scalar.addi v7933_r0 c0_i32_5296_r0
  let v8374_r0 : BitVec 32 := Scalar.muli c2_i32_5308_r0 v8349_r0
  let v8375_r0 : Index := Scalar.indexCast v8374_r0
  let c1_5309_r0 : Index := 1#32
  let c128_5310_r0 : Index := 128#32
  ![v8375_r0.toNat, 1, 128]
def k0_off47 (k0_t1 : Fin k0_t1_loop.trips) (c0_i32_5296_r0 : BitVec 32) : Fin 3 → Nat :=
  let c2_i32_5311_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8349_r0 : BitVec 32 := Scalar.addi v7933_r0 c0_i32_5296_r0
  let v8381_r0 : BitVec 32 := Scalar.muli c2_i32_5311_r0 v8349_r0
  let c1_i32_5312_r0 : BitVec 32 := 1#32
  let v8382_r0 : BitVec 32 := Scalar.addi v8381_r0 c1_i32_5312_r0
  let v8383_r0 : Index := Scalar.indexCast v8382_r0
  let c1_5313_r0 : Index := 1#32
  let c128_5314_r0 : Index := 128#32
  ![v8383_r0.toNat, 1, 128]
def k0_off48 (k0_t1 : Fin k0_t1_loop.trips) (c0_i32_5319_r0 : BitVec 32) : Fin 3 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8394_r0 : BitVec 32 := Scalar.addi v7933_r0 c0_i32_5319_r0
  let v8395_r0 : Index := Scalar.indexCast v8394_r0
  let c1152_5320_r0 : Index := 1152#32
  let c0_5321_r0 : Index := 0#32
  ![v8395_r0.toNat, 1152, 0]
def k0_off49 (k0_t1 : Fin k0_t1_loop.trips) (c0_i32_5322_r0 : BitVec 32) : Fin 3 → Nat :=
  let c2_i32_5323_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8399_r0 : BitVec 32 := Scalar.addi v7933_r0 c0_i32_5322_r0
  let v8402_r0 : BitVec 32 := Scalar.muli c2_i32_5323_r0 v8399_r0
  let v8403_r0 : Index := Scalar.indexCast v8402_r0
  let c2_5324_r0 : Index := 2#32
  let c0_5325_r0 : Index := 0#32
  ![v8403_r0.toNat, 2, 0]
def k0_off50 (k0_t1 : Fin k0_t1_loop.trips) (c0_i32_5322_r0 : BitVec 32) : Fin 3 → Nat :=
  let c2_i32_5326_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8399_r0 : BitVec 32 := Scalar.addi v7933_r0 c0_i32_5322_r0
  let v8409_r0 : BitVec 32 := Scalar.muli c2_i32_5326_r0 v8399_r0
  let c1_i32_5327_r0 : BitVec 32 := 1#32
  let v8410_r0 : BitVec 32 := Scalar.addi v8409_r0 c1_i32_5327_r0
  let v8411_r0 : Index := Scalar.indexCast v8410_r0
  let c2_5328_r0 : Index := 2#32
  let c0_5329_r0 : Index := 0#32
  ![v8411_r0.toNat, 2, 0]
def k0_off51 (k0_t1 : Fin k0_t1_loop.trips) (c0_i32_5322_r0 : BitVec 32) : Fin 3 → Nat :=
  let c2_i32_5334_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8399_r0 : BitVec 32 := Scalar.addi v7933_r0 c0_i32_5322_r0
  let v8424_r0 : BitVec 32 := Scalar.muli c2_i32_5334_r0 v8399_r0
  let v8425_r0 : Index := Scalar.indexCast v8424_r0
  let c2_5335_r0 : Index := 2#32
  let c128_5336_r0 : Index := 128#32
  ![v8425_r0.toNat, 2, 128]
def k0_off52 (k0_t1 : Fin k0_t1_loop.trips) (c0_i32_5322_r0 : BitVec 32) : Fin 3 → Nat :=
  let c2_i32_5337_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8399_r0 : BitVec 32 := Scalar.addi v7933_r0 c0_i32_5322_r0
  let v8431_r0 : BitVec 32 := Scalar.muli c2_i32_5337_r0 v8399_r0
  let c1_i32_5338_r0 : BitVec 32 := 1#32
  let v8432_r0 : BitVec 32 := Scalar.addi v8431_r0 c1_i32_5338_r0
  let v8433_r0 : Index := Scalar.indexCast v8432_r0
  let c2_5339_r0 : Index := 2#32
  let c128_5340_r0 : Index := 128#32
  ![v8433_r0.toNat, 2, 128]
def k0_off53 (k0_t1 : Fin k0_t1_loop.trips) (c0_i32_5345_r0 : BitVec 32) : Fin 3 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8444_r0 : BitVec 32 := Scalar.addi v7933_r0 c0_i32_5345_r0
  let v8445_r0 : Index := Scalar.indexCast v8444_r0
  let c1280_5346_r0 : Index := 1280#32
  let c0_5347_r0 : Index := 0#32
  ![v8445_r0.toNat, 1280, 0]
def k0_off54 (k0_t1 : Fin k0_t1_loop.trips) (c0_i32_5348_r0 : BitVec 32) : Fin 3 → Nat :=
  let c2_i32_5349_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8449_r0 : BitVec 32 := Scalar.addi v7933_r0 c0_i32_5348_r0
  let v8452_r0 : BitVec 32 := Scalar.muli c2_i32_5349_r0 v8449_r0
  let v8453_r0 : Index := Scalar.indexCast v8452_r0
  let c3_5350_r0 : Index := 3#32
  let c0_5351_r0 : Index := 0#32
  ![v8453_r0.toNat, 3, 0]
def k0_off55 (k0_t1 : Fin k0_t1_loop.trips) (c0_i32_5348_r0 : BitVec 32) : Fin 3 → Nat :=
  let c2_i32_5352_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8449_r0 : BitVec 32 := Scalar.addi v7933_r0 c0_i32_5348_r0
  let v8459_r0 : BitVec 32 := Scalar.muli c2_i32_5352_r0 v8449_r0
  let c1_i32_5353_r0 : BitVec 32 := 1#32
  let v8460_r0 : BitVec 32 := Scalar.addi v8459_r0 c1_i32_5353_r0
  let v8461_r0 : Index := Scalar.indexCast v8460_r0
  let c3_5354_r0 : Index := 3#32
  let c0_5355_r0 : Index := 0#32
  ![v8461_r0.toNat, 3, 0]
def k0_off56 (k0_t1 : Fin k0_t1_loop.trips) (c0_i32_5348_r0 : BitVec 32) : Fin 3 → Nat :=
  let c2_i32_5360_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8449_r0 : BitVec 32 := Scalar.addi v7933_r0 c0_i32_5348_r0
  let v8474_r0 : BitVec 32 := Scalar.muli c2_i32_5360_r0 v8449_r0
  let v8475_r0 : Index := Scalar.indexCast v8474_r0
  let c3_5361_r0 : Index := 3#32
  let c128_5362_r0 : Index := 128#32
  ![v8475_r0.toNat, 3, 128]
def k0_off57 (k0_t1 : Fin k0_t1_loop.trips) (c0_i32_5348_r0 : BitVec 32) : Fin 3 → Nat :=
  let c2_i32_5363_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8449_r0 : BitVec 32 := Scalar.addi v7933_r0 c0_i32_5348_r0
  let v8481_r0 : BitVec 32 := Scalar.muli c2_i32_5363_r0 v8449_r0
  let c1_i32_5364_r0 : BitVec 32 := 1#32
  let v8482_r0 : BitVec 32 := Scalar.addi v8481_r0 c1_i32_5364_r0
  let v8483_r0 : Index := Scalar.indexCast v8482_r0
  let c3_5365_r0 : Index := 3#32
  let c128_5366_r0 : Index := 128#32
  ![v8483_r0.toNat, 3, 128]
def k0_off58 (k0_t1 : Fin k0_t1_loop.trips) (c0_i32_5371_r0 : BitVec 32) : Fin 3 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8494_r0 : BitVec 32 := Scalar.addi v7933_r0 c0_i32_5371_r0
  let v8495_r0 : Index := Scalar.indexCast v8494_r0
  let c1408_5372_r0 : Index := 1408#32
  let c0_5373_r0 : Index := 0#32
  ![v8495_r0.toNat, 1408, 0]
def k0_off59 (k0_t1 : Fin k0_t1_loop.trips) (c0_i32_5374_r0 : BitVec 32) : Fin 3 → Nat :=
  let c2_i32_5375_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8499_r0 : BitVec 32 := Scalar.addi v7933_r0 c0_i32_5374_r0
  let v8502_r0 : BitVec 32 := Scalar.muli c2_i32_5375_r0 v8499_r0
  let v8503_r0 : Index := Scalar.indexCast v8502_r0
  let c4_5376_r0 : Index := 4#32
  let c0_5377_r0 : Index := 0#32
  ![v8503_r0.toNat, 4, 0]
def k0_off60 (k0_t1 : Fin k0_t1_loop.trips) (c0_i32_5374_r0 : BitVec 32) : Fin 3 → Nat :=
  let c2_i32_5378_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8499_r0 : BitVec 32 := Scalar.addi v7933_r0 c0_i32_5374_r0
  let v8509_r0 : BitVec 32 := Scalar.muli c2_i32_5378_r0 v8499_r0
  let c1_i32_5379_r0 : BitVec 32 := 1#32
  let v8510_r0 : BitVec 32 := Scalar.addi v8509_r0 c1_i32_5379_r0
  let v8511_r0 : Index := Scalar.indexCast v8510_r0
  let c4_5380_r0 : Index := 4#32
  let c0_5381_r0 : Index := 0#32
  ![v8511_r0.toNat, 4, 0]
def k0_off61 (k0_t1 : Fin k0_t1_loop.trips) (c0_i32_5374_r0 : BitVec 32) : Fin 3 → Nat :=
  let c2_i32_5386_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8499_r0 : BitVec 32 := Scalar.addi v7933_r0 c0_i32_5374_r0
  let v8524_r0 : BitVec 32 := Scalar.muli c2_i32_5386_r0 v8499_r0
  let v8525_r0 : Index := Scalar.indexCast v8524_r0
  let c4_5387_r0 : Index := 4#32
  let c128_5388_r0 : Index := 128#32
  ![v8525_r0.toNat, 4, 128]
def k0_off62 (k0_t1 : Fin k0_t1_loop.trips) (c0_i32_5374_r0 : BitVec 32) : Fin 3 → Nat :=
  let c2_i32_5389_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8499_r0 : BitVec 32 := Scalar.addi v7933_r0 c0_i32_5374_r0
  let v8531_r0 : BitVec 32 := Scalar.muli c2_i32_5389_r0 v8499_r0
  let c1_i32_5390_r0 : BitVec 32 := 1#32
  let v8532_r0 : BitVec 32 := Scalar.addi v8531_r0 c1_i32_5390_r0
  let v8533_r0 : Index := Scalar.indexCast v8532_r0
  let c4_5391_r0 : Index := 4#32
  let c128_5392_r0 : Index := 128#32
  ![v8533_r0.toNat, 4, 128]
def k0_off63 (k0_t1 : Fin k0_t1_loop.trips) (c0_i32_5397_r0 : BitVec 32) : Fin 3 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8544_r0 : BitVec 32 := Scalar.addi v7933_r0 c0_i32_5397_r0
  let v8545_r0 : Index := Scalar.indexCast v8544_r0
  let c1536_5398_r0 : Index := 1536#32
  let c0_5399_r0 : Index := 0#32
  ![v8545_r0.toNat, 1536, 0]
def k0_off64 (k0_t1 : Fin k0_t1_loop.trips) (c0_i32_5400_r0 : BitVec 32) : Fin 3 → Nat :=
  let c2_i32_5401_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8549_r0 : BitVec 32 := Scalar.addi v7933_r0 c0_i32_5400_r0
  let v8552_r0 : BitVec 32 := Scalar.muli c2_i32_5401_r0 v8549_r0
  let v8553_r0 : Index := Scalar.indexCast v8552_r0
  let c5_5402_r0 : Index := 5#32
  let c0_5403_r0 : Index := 0#32
  ![v8553_r0.toNat, 5, 0]
def k0_off65 (k0_t1 : Fin k0_t1_loop.trips) (c0_i32_5400_r0 : BitVec 32) : Fin 3 → Nat :=
  let c2_i32_5404_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8549_r0 : BitVec 32 := Scalar.addi v7933_r0 c0_i32_5400_r0
  let v8559_r0 : BitVec 32 := Scalar.muli c2_i32_5404_r0 v8549_r0
  let c1_i32_5405_r0 : BitVec 32 := 1#32
  let v8560_r0 : BitVec 32 := Scalar.addi v8559_r0 c1_i32_5405_r0
  let v8561_r0 : Index := Scalar.indexCast v8560_r0
  let c5_5406_r0 : Index := 5#32
  let c0_5407_r0 : Index := 0#32
  ![v8561_r0.toNat, 5, 0]
def k0_off66 (k0_t1 : Fin k0_t1_loop.trips) (c0_i32_5400_r0 : BitVec 32) : Fin 3 → Nat :=
  let c2_i32_5412_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8549_r0 : BitVec 32 := Scalar.addi v7933_r0 c0_i32_5400_r0
  let v8574_r0 : BitVec 32 := Scalar.muli c2_i32_5412_r0 v8549_r0
  let v8575_r0 : Index := Scalar.indexCast v8574_r0
  let c5_5413_r0 : Index := 5#32
  let c128_5414_r0 : Index := 128#32
  ![v8575_r0.toNat, 5, 128]
def k0_off67 (k0_t1 : Fin k0_t1_loop.trips) (c0_i32_5400_r0 : BitVec 32) : Fin 3 → Nat :=
  let c2_i32_5415_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8549_r0 : BitVec 32 := Scalar.addi v7933_r0 c0_i32_5400_r0
  let v8581_r0 : BitVec 32 := Scalar.muli c2_i32_5415_r0 v8549_r0
  let c1_i32_5416_r0 : BitVec 32 := 1#32
  let v8582_r0 : BitVec 32 := Scalar.addi v8581_r0 c1_i32_5416_r0
  let v8583_r0 : Index := Scalar.indexCast v8582_r0
  let c5_5417_r0 : Index := 5#32
  let c128_5418_r0 : Index := 128#32
  ![v8583_r0.toNat, 5, 128]
def k0_off68 (k0_t1 : Fin k0_t1_loop.trips) (c0_i32_5423_r0 : BitVec 32) : Fin 3 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8594_r0 : BitVec 32 := Scalar.addi v7933_r0 c0_i32_5423_r0
  let v8595_r0 : Index := Scalar.indexCast v8594_r0
  let c1664_5424_r0 : Index := 1664#32
  let c0_5425_r0 : Index := 0#32
  ![v8595_r0.toNat, 1664, 0]
def k0_off69 (k0_t1 : Fin k0_t1_loop.trips) (c0_i32_5426_r0 : BitVec 32) : Fin 3 → Nat :=
  let c2_i32_5427_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8599_r0 : BitVec 32 := Scalar.addi v7933_r0 c0_i32_5426_r0
  let v8602_r0 : BitVec 32 := Scalar.muli c2_i32_5427_r0 v8599_r0
  let v8603_r0 : Index := Scalar.indexCast v8602_r0
  let c6_5428_r0 : Index := 6#32
  let c0_5429_r0 : Index := 0#32
  ![v8603_r0.toNat, 6, 0]
def k0_off70 (k0_t1 : Fin k0_t1_loop.trips) (c0_i32_5426_r0 : BitVec 32) : Fin 3 → Nat :=
  let c2_i32_5430_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8599_r0 : BitVec 32 := Scalar.addi v7933_r0 c0_i32_5426_r0
  let v8609_r0 : BitVec 32 := Scalar.muli c2_i32_5430_r0 v8599_r0
  let c1_i32_5431_r0 : BitVec 32 := 1#32
  let v8610_r0 : BitVec 32 := Scalar.addi v8609_r0 c1_i32_5431_r0
  let v8611_r0 : Index := Scalar.indexCast v8610_r0
  let c6_5432_r0 : Index := 6#32
  let c0_5433_r0 : Index := 0#32
  ![v8611_r0.toNat, 6, 0]
def k0_off71 (k0_t1 : Fin k0_t1_loop.trips) (c0_i32_5426_r0 : BitVec 32) : Fin 3 → Nat :=
  let c2_i32_5438_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8599_r0 : BitVec 32 := Scalar.addi v7933_r0 c0_i32_5426_r0
  let v8624_r0 : BitVec 32 := Scalar.muli c2_i32_5438_r0 v8599_r0
  let v8625_r0 : Index := Scalar.indexCast v8624_r0
  let c6_5439_r0 : Index := 6#32
  let c128_5440_r0 : Index := 128#32
  ![v8625_r0.toNat, 6, 128]
def k0_off72 (k0_t1 : Fin k0_t1_loop.trips) (c0_i32_5426_r0 : BitVec 32) : Fin 3 → Nat :=
  let c2_i32_5441_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8599_r0 : BitVec 32 := Scalar.addi v7933_r0 c0_i32_5426_r0
  let v8631_r0 : BitVec 32 := Scalar.muli c2_i32_5441_r0 v8599_r0
  let c1_i32_5442_r0 : BitVec 32 := 1#32
  let v8632_r0 : BitVec 32 := Scalar.addi v8631_r0 c1_i32_5442_r0
  let v8633_r0 : Index := Scalar.indexCast v8632_r0
  let c6_5443_r0 : Index := 6#32
  let c128_5444_r0 : Index := 128#32
  ![v8633_r0.toNat, 6, 128]
def k0_off73 (k0_t1 : Fin k0_t1_loop.trips) (c0_i32_5449_r0 : BitVec 32) : Fin 3 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8644_r0 : BitVec 32 := Scalar.addi v7933_r0 c0_i32_5449_r0
  let v8645_r0 : Index := Scalar.indexCast v8644_r0
  let c1792_5450_r0 : Index := 1792#32
  let c0_5451_r0 : Index := 0#32
  ![v8645_r0.toNat, 1792, 0]
def k0_off74 (k0_t1 : Fin k0_t1_loop.trips) (c0_i32_5452_r0 : BitVec 32) : Fin 3 → Nat :=
  let c2_i32_5453_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8649_r0 : BitVec 32 := Scalar.addi v7933_r0 c0_i32_5452_r0
  let v8652_r0 : BitVec 32 := Scalar.muli c2_i32_5453_r0 v8649_r0
  let v8653_r0 : Index := Scalar.indexCast v8652_r0
  let c7_5454_r0 : Index := 7#32
  let c0_5455_r0 : Index := 0#32
  ![v8653_r0.toNat, 7, 0]
def k0_off75 (k0_t1 : Fin k0_t1_loop.trips) (c0_i32_5452_r0 : BitVec 32) : Fin 3 → Nat :=
  let c2_i32_5456_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8649_r0 : BitVec 32 := Scalar.addi v7933_r0 c0_i32_5452_r0
  let v8659_r0 : BitVec 32 := Scalar.muli c2_i32_5456_r0 v8649_r0
  let c1_i32_5457_r0 : BitVec 32 := 1#32
  let v8660_r0 : BitVec 32 := Scalar.addi v8659_r0 c1_i32_5457_r0
  let v8661_r0 : Index := Scalar.indexCast v8660_r0
  let c7_5458_r0 : Index := 7#32
  let c0_5459_r0 : Index := 0#32
  ![v8661_r0.toNat, 7, 0]
def k0_off76 (k0_t1 : Fin k0_t1_loop.trips) (c0_i32_5452_r0 : BitVec 32) : Fin 3 → Nat :=
  let c2_i32_5464_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8649_r0 : BitVec 32 := Scalar.addi v7933_r0 c0_i32_5452_r0
  let v8674_r0 : BitVec 32 := Scalar.muli c2_i32_5464_r0 v8649_r0
  let v8675_r0 : Index := Scalar.indexCast v8674_r0
  let c7_5465_r0 : Index := 7#32
  let c128_5466_r0 : Index := 128#32
  ![v8675_r0.toNat, 7, 128]
def k0_off77 (k0_t1 : Fin k0_t1_loop.trips) (c0_i32_5452_r0 : BitVec 32) : Fin 3 → Nat :=
  let c2_i32_5467_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8649_r0 : BitVec 32 := Scalar.addi v7933_r0 c0_i32_5452_r0
  let v8681_r0 : BitVec 32 := Scalar.muli c2_i32_5467_r0 v8649_r0
  let c1_i32_5468_r0 : BitVec 32 := 1#32
  let v8682_r0 : BitVec 32 := Scalar.addi v8681_r0 c1_i32_5468_r0
  let v8683_r0 : Index := Scalar.indexCast v8682_r0
  let c7_5469_r0 : Index := 7#32
  let c128_5470_r0 : Index := 128#32
  ![v8683_r0.toNat, 7, 128]
def k0_off78 (k0_t1 : Fin k0_t1_loop.trips) (c0_i32_5475_r0 : BitVec 32) : Fin 3 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8694_r0 : BitVec 32 := Scalar.addi v7933_r0 c0_i32_5475_r0
  let v8695_r0 : Index := Scalar.indexCast v8694_r0
  let c1920_5476_r0 : Index := 1920#32
  let c0_5477_r0 : Index := 0#32
  ![v8695_r0.toNat, 1920, 0]
def k0_off79 (k0_t1 : Fin k0_t1_loop.trips) (c0_i32_5478_r0 : BitVec 32) : Fin 3 → Nat :=
  let c2_i32_5479_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8699_r0 : BitVec 32 := Scalar.addi v7933_r0 c0_i32_5478_r0
  let v8702_r0 : BitVec 32 := Scalar.muli c2_i32_5479_r0 v8699_r0
  let v8703_r0 : Index := Scalar.indexCast v8702_r0
  let c8_5480_r0 : Index := 8#32
  let c0_5481_r0 : Index := 0#32
  ![v8703_r0.toNat, 8, 0]
def k0_off80 (k0_t1 : Fin k0_t1_loop.trips) (c0_i32_5478_r0 : BitVec 32) : Fin 3 → Nat :=
  let c2_i32_5482_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8699_r0 : BitVec 32 := Scalar.addi v7933_r0 c0_i32_5478_r0
  let v8709_r0 : BitVec 32 := Scalar.muli c2_i32_5482_r0 v8699_r0
  let c1_i32_5483_r0 : BitVec 32 := 1#32
  let v8710_r0 : BitVec 32 := Scalar.addi v8709_r0 c1_i32_5483_r0
  let v8711_r0 : Index := Scalar.indexCast v8710_r0
  let c8_5484_r0 : Index := 8#32
  let c0_5485_r0 : Index := 0#32
  ![v8711_r0.toNat, 8, 0]
def k0_off81 (k0_t1 : Fin k0_t1_loop.trips) (c0_i32_5478_r0 : BitVec 32) : Fin 3 → Nat :=
  let c2_i32_5490_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8699_r0 : BitVec 32 := Scalar.addi v7933_r0 c0_i32_5478_r0
  let v8724_r0 : BitVec 32 := Scalar.muli c2_i32_5490_r0 v8699_r0
  let v8725_r0 : Index := Scalar.indexCast v8724_r0
  let c8_5491_r0 : Index := 8#32
  let c128_5492_r0 : Index := 128#32
  ![v8725_r0.toNat, 8, 128]
def k0_off82 (k0_t1 : Fin k0_t1_loop.trips) (c0_i32_5478_r0 : BitVec 32) : Fin 3 → Nat :=
  let c2_i32_5493_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8699_r0 : BitVec 32 := Scalar.addi v7933_r0 c0_i32_5478_r0
  let v8731_r0 : BitVec 32 := Scalar.muli c2_i32_5493_r0 v8699_r0
  let c1_i32_5494_r0 : BitVec 32 := 1#32
  let v8732_r0 : BitVec 32 := Scalar.addi v8731_r0 c1_i32_5494_r0
  let v8733_r0 : Index := Scalar.indexCast v8732_r0
  let c8_5495_r0 : Index := 8#32
  let c128_5496_r0 : Index := 128#32
  ![v8733_r0.toNat, 8, 128]
def k0_off83 (k0_t1 : Fin k0_t1_loop.trips) (c0_i32_5501_r0 : BitVec 32) : Fin 3 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8744_r0 : BitVec 32 := Scalar.addi v7933_r0 c0_i32_5501_r0
  let v8745_r0 : Index := Scalar.indexCast v8744_r0
  let c2048_5502_r0 : Index := 2048#32
  let c0_5503_r0 : Index := 0#32
  ![v8745_r0.toNat, 2048, 0]
def k0_off84 (k0_t1 : Fin k0_t1_loop.trips) (c0_i32_5504_r0 : BitVec 32) : Fin 3 → Nat :=
  let c2_i32_5505_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8749_r0 : BitVec 32 := Scalar.addi v7933_r0 c0_i32_5504_r0
  let v8752_r0 : BitVec 32 := Scalar.muli c2_i32_5505_r0 v8749_r0
  let v8753_r0 : Index := Scalar.indexCast v8752_r0
  let c9_5506_r0 : Index := 9#32
  let c0_5507_r0 : Index := 0#32
  ![v8753_r0.toNat, 9, 0]
def k0_off85 (k0_t1 : Fin k0_t1_loop.trips) (c0_i32_5504_r0 : BitVec 32) : Fin 3 → Nat :=
  let c2_i32_5508_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8749_r0 : BitVec 32 := Scalar.addi v7933_r0 c0_i32_5504_r0
  let v8759_r0 : BitVec 32 := Scalar.muli c2_i32_5508_r0 v8749_r0
  let c1_i32_5509_r0 : BitVec 32 := 1#32
  let v8760_r0 : BitVec 32 := Scalar.addi v8759_r0 c1_i32_5509_r0
  let v8761_r0 : Index := Scalar.indexCast v8760_r0
  let c9_5510_r0 : Index := 9#32
  let c0_5511_r0 : Index := 0#32
  ![v8761_r0.toNat, 9, 0]
def k0_off86 (k0_t1 : Fin k0_t1_loop.trips) (c0_i32_5504_r0 : BitVec 32) : Fin 3 → Nat :=
  let c2_i32_5516_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8749_r0 : BitVec 32 := Scalar.addi v7933_r0 c0_i32_5504_r0
  let v8774_r0 : BitVec 32 := Scalar.muli c2_i32_5516_r0 v8749_r0
  let v8775_r0 : Index := Scalar.indexCast v8774_r0
  let c9_5517_r0 : Index := 9#32
  let c128_5518_r0 : Index := 128#32
  ![v8775_r0.toNat, 9, 128]
def k0_off87 (k0_t1 : Fin k0_t1_loop.trips) (c0_i32_5504_r0 : BitVec 32) : Fin 3 → Nat :=
  let c2_i32_5519_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8749_r0 : BitVec 32 := Scalar.addi v7933_r0 c0_i32_5504_r0
  let v8781_r0 : BitVec 32 := Scalar.muli c2_i32_5519_r0 v8749_r0
  let c1_i32_5520_r0 : BitVec 32 := 1#32
  let v8782_r0 : BitVec 32 := Scalar.addi v8781_r0 c1_i32_5520_r0
  let v8783_r0 : Index := Scalar.indexCast v8782_r0
  let c9_5521_r0 : Index := 9#32
  let c128_5522_r0 : Index := 128#32
  ![v8783_r0.toNat, 9, 128]
def k0_off88 (k0_t1 : Fin k0_t1_loop.trips) (c0_i32_5527_r0 : BitVec 32) : Fin 3 → Nat :=
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8794_r0 : BitVec 32 := Scalar.addi v7933_r0 c0_i32_5527_r0
  let v8795_r0 : Index := Scalar.indexCast v8794_r0
  let c2176_5528_r0 : Index := 2176#32
  let c0_5529_r0 : Index := 0#32
  ![v8795_r0.toNat, 2176, 0]
def k0_off89 (k0_t1 : Fin k0_t1_loop.trips) (c0_i32_5530_r0 : BitVec 32) : Fin 3 → Nat :=
  let c2_i32_5531_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8799_r0 : BitVec 32 := Scalar.addi v7933_r0 c0_i32_5530_r0
  let v8802_r0 : BitVec 32 := Scalar.muli c2_i32_5531_r0 v8799_r0
  let v8803_r0 : Index := Scalar.indexCast v8802_r0
  let c10_5532_r0 : Index := 10#32
  let c0_5533_r0 : Index := 0#32
  ![v8803_r0.toNat, 10, 0]
def k0_off90 (k0_t1 : Fin k0_t1_loop.trips) (c0_i32_5530_r0 : BitVec 32) : Fin 3 → Nat :=
  let c2_i32_5534_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8799_r0 : BitVec 32 := Scalar.addi v7933_r0 c0_i32_5530_r0
  let v8809_r0 : BitVec 32 := Scalar.muli c2_i32_5534_r0 v8799_r0
  let c1_i32_5535_r0 : BitVec 32 := 1#32
  let v8810_r0 : BitVec 32 := Scalar.addi v8809_r0 c1_i32_5535_r0
  let v8811_r0 : Index := Scalar.indexCast v8810_r0
  let c10_5536_r0 : Index := 10#32
  let c0_5537_r0 : Index := 0#32
  ![v8811_r0.toNat, 10, 0]
def k0_off91 (k0_t1 : Fin k0_t1_loop.trips) (c0_i32_5530_r0 : BitVec 32) : Fin 3 → Nat :=
  let c2_i32_5542_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8799_r0 : BitVec 32 := Scalar.addi v7933_r0 c0_i32_5530_r0
  let v8824_r0 : BitVec 32 := Scalar.muli c2_i32_5542_r0 v8799_r0
  let v8825_r0 : Index := Scalar.indexCast v8824_r0
  let c10_5543_r0 : Index := 10#32
  let c128_5544_r0 : Index := 128#32
  ![v8825_r0.toNat, 10, 128]
def k0_off92 (k0_t1 : Fin k0_t1_loop.trips) (c0_i32_5530_r0 : BitVec 32) : Fin 3 → Nat :=
  let c2_i32_5545_r0 : BitVec 32 := 2#32
  let c1_i32_3250_r0 : BitVec 32 := 1#32
  let c1_i32_3251_r0 : BitVec 32 := 1#32
  let arg12_r0 : BitVec 32 := Scf.iv c1_i32_3250_r0 c1_i32_3251_r0 k0_t1
  let c4_i32_5077_r0 : BitVec 32 := 4#32
  let v7933_r0 : BitVec 32 := Scalar.muli arg12_r0 c4_i32_5077_r0
  let v8799_r0 : BitVec 32 := Scalar.addi v7933_r0 c0_i32_5530_r0
  let v8831_r0 : BitVec 32 := Scalar.muli c2_i32_5545_r0 v8799_r0
  let c1_i32_5546_r0 : BitVec 32 := 1#32
  let v8832_r0 : BitVec 32 := Scalar.addi v8831_r0 c1_i32_5546_r0
  let v8833_r0 : Index := Scalar.indexCast v8832_r0
  let c10_5547_r0 : Index := 10#32
  let c128_5548_r0 : Index := 128#32
  ![v8833_r0.toNat, 10, 128]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S28x2304x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S56x18x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x7168 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x56 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x4096x7168 : Shape := ⟨3, ![8, 4096, 7168]⟩
abbrev S7168x2304 : Shape := ⟨2, ![7168, 2304]⟩
abbrev S56x18 : Shape := ⟨2, ![56, 18]⟩
abbrev S32768x7168 : Shape := ⟨2, ![32768, 7168]⟩
abbrev S32768x2304 : Shape := ⟨2, ![32768, 2304]⟩
abbrev S32768x56 : Shape := ⟨2, ![32768, 56]⟩
abbrev S32768x56x128 : Shape := ⟨3, ![32768, 56, 128]⟩
abbrev S32768x56x254 : Shape := ⟨3, ![32768, 56, 254]⟩
abbrev S32768x56x1 : Shape := ⟨3, ![32768, 56, 1]⟩
abbrev S56x128x2304 : Shape := ⟨3, ![56, 128, 2304]⟩
abbrev S56x32768x2304 : Shape := ⟨3, ![56, 32768, 2304]⟩
abbrev S56x18x1 : Shape := ⟨3, ![56, 18, 1]⟩
abbrev S56x18x128 : Shape := ⟨3, ![56, 18, 128]⟩
abbrev S56x2304 : Shape := ⟨2, ![56, 2304]⟩
abbrev S56x32768 : Shape := ⟨2, ![56, 32768]⟩
abbrev S56x32768x1 : Shape := ⟨3, ![56, 32768, 1]⟩
abbrev S56x1x2304 : Shape := ⟨3, ![56, 1, 2304]⟩

abbrev nBuf : Space → Nat
  | .hbm => 7
  | .vmem => 6
  | .smem => 0
  | _ => 0

abbrev bufTy : (tb : Table) → Fin (tcTables nBuf tb) → BufTy
  | .hbm, ⟨0, _⟩ => ⟨S8x4096x7168, .bf16⟩
  | .hbm, ⟨1, _⟩ => ⟨S7168x2304, .fp8e4m3⟩
  | .hbm, ⟨2, _⟩ => ⟨S56x18, .f32⟩
  | .hbm, ⟨3, _⟩ => ⟨S32768x7168, .bf16⟩
  | .hbm, ⟨4, _⟩ => ⟨S32768x2304, .bf16⟩
  | .hbm, ⟨5, _⟩ => ⟨S32768x7168, .fp8e4m3⟩
  | .hbm, ⟨6, _⟩ => ⟨S32768x56, .f32⟩
  | .local _ .vmem, ⟨0, _⟩ => ⟨S32768x7168, .bf16⟩
  | .local _ .vmem, ⟨1, _⟩ => ⟨S7168x2304, .fp8e4m3⟩
  | .local _ .vmem, ⟨2, _⟩ => ⟨S56x18, .f32⟩
  | .local _ .vmem, ⟨3, _⟩ => ⟨S32768x2304, .bf16⟩
  | .local _ .vmem, ⟨4, _⟩ => ⟨S32768x7168, .fp8e4m3⟩
  | .local _ .vmem, ⟨5, _⟩ => ⟨S32768x56, .f32⟩
  | _, _ => ⟨S8x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32768x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x2304 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x18 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Rolled.lean ====
module

public import Idealize.ShloMosaic.Lib.Pipeline
public import Idealize.ShloMosaic.Lib.Scf
public import Idealize.ShloMosaic.Lib.Sig
public import Idealize.ShloMosaic.PureOps
public import Idealize.ShloMosaic.Lib.Mxu

/-! The kernel body written with loops.

The printed body is straight-line: every group, pair and column block of the Python source is
unrolled. Here the same body is written over its indices. `Match*.lean` prove that the
printed text is an instance of this one; everything else is proved of this one. -/

@[expose] public section

noncomputable section

namespace Rolled

open Idealize.ShloMosaic Idealize.SL.Sem

/-- A shape. -/
abbrev S256x7168 : Shape := ⟨2, ![256, 7168]⟩
/-- A shape. -/
abbrev S28x2304x256 : Shape := ⟨3, ![28, 2304, 256]⟩
/-- A shape. -/
abbrev S56x18x128 : Shape := ⟨3, ![56, 18, 128]⟩
/-- A shape. -/
abbrev S256x2304 : Shape := ⟨2, ![256, 2304]⟩
/-- A shape. -/
abbrev S256x56 : Shape := ⟨2, ![256, 56]⟩
/-- A shape. -/
abbrev S28x2x256x256 : Shape := ⟨4, ![28, 2, 256, 256]⟩
/-- A shape. -/
abbrev S256x128 : Shape := ⟨2, ![256, 128]⟩
/-- A shape. -/
abbrev S56x18x256 : Shape := ⟨3, ![56, 18, 256]⟩
/-- A shape. -/
abbrev S2304x256 : Shape := ⟨2, ![2304, 256]⟩
/-- A shape. -/
abbrev S256 : Shape := ⟨1, ![256]⟩
/-- A shape. -/
abbrev S256x1 : Shape := ⟨2, ![256, 1]⟩
/-- A shape. -/
abbrev S56x256 : Shape := ⟨2, ![56, 256]⟩
/-- A shape. -/
abbrev S1x18x128 : Shape := ⟨3, ![1, 18, 128]⟩
/-- A shape. -/
abbrev S18x128 : Shape := ⟨2, ![18, 128]⟩
/-- A shape. -/
abbrev S1x128 : Shape := ⟨2, ![1, 128]⟩
/-- A shape. -/
abbrev S128x128 : Shape := ⟨2, ![128, 128]⟩
/-- A shape. -/
abbrev S1x1x128x128 : Shape := ⟨4, ![1, 1, 128, 128]⟩
/-- A shape. -/
abbrev S1x1x256x256 : Shape := ⟨4, ![1, 1, 256, 256]⟩
/-- A shape. -/
abbrev S256x256 : Shape := ⟨2, ![256, 256]⟩
/-- A shape. -/
abbrev S1x128x256 : Shape := ⟨3, ![1, 128, 256]⟩
/-- A shape. -/
abbrev S128x256 : Shape := ⟨2, ![128, 256]⟩
/-- A shape. -/
abbrev S1x1x128 : Shape := ⟨3, ![1, 1, 128]⟩

/-- The shape is not empty. -/
theorem pos_S128x128 : 0 < S128x128.numel := by decide
/-- The shape is not empty. -/
theorem pos_S1x128x256 : 0 < S1x128x256.numel := by decide
/-- The shape is not empty. -/
theorem pos_S1x18x128 : 0 < S1x18x128.numel := by decide
/-- The shape is not empty. -/
theorem pos_S1x1x128 : 0 < S1x1x128.numel := by decide
/-- The shape is not empty. -/
theorem pos_S1x1x128x128 : 0 < S1x1x128x128.numel := by decide
/-- The shape is not empty. -/
theorem pos_S256x1 : 0 < S256x1.numel := by decide
/-- The shape is not empty. -/
theorem pos_S256x128 : 0 < S256x128.numel := by decide
/-- The shape is not empty. -/
theorem pos_S1x1x256x256 : 0 < S1x1x256x256.numel := by decide
/-- The shape is not empty. -/
theorem pos_S256x56 : 0 < S256x56.numel := by decide

variable {nD : Nat} {τ : Topo} {sig : RefSig} {Λ : Labels} {F : FTy → Type} [FloatOps F]

/-- The body's buffers: the six blocks the pipeline stages and the five scratch buffers, each a
    whole buffer. -/
structure Bufs (sig : RefSig) where
  x : Memref sig .tc .vmem S256x7168 .bf16
  hx : x.IsWhole
  wt : Memref sig .tc .vmem S28x2304x256 .fp8e4m3
  hwt : wt.IsWhole
  wsb : Memref sig .tc .vmem S56x18x128 .f32
  hwsb : wsb.IsWhole
  y : Memref sig .tc .vmem S256x2304 .bf16
  hy : y.IsWhole
  codes : Memref sig .tc .vmem S256x7168 .fp8e4m3
  hcodes : codes.IsWhole
  scales : Memref sig .tc .vmem S256x56 .f32
  hscales : scales.IsWhole
  rhs : Memref sig .tc .vmem S28x2x256x256 .fp8e4m3
  hrhs : rhs.IsWhole
  amax : Memref sig .tc .vmem S256x128 .f32
  hamax : amax.IsWhole
  inv : Memref sig .tc .vmem S256x128 .f32
  hinv : inv.IsWhole
  srow : Memref sig .tc .vmem S56x18x256 .f32
  hsrow : srow.IsWhole
  out : Memref sig .tc .vmem S2304x256 .f32
  hout : out.IsWhole

/-- Programs of the body. -/
abbrev P (nD : Nat) (τ : Topo) (sig : RefSig) (Λ : Labels) (F : FTy → Type) [FloatOps F] (α : Type) : Type _ :=
  Prog (TpuEff nD τ sig (Elt F) Λ .tc) α

/-- `f 0`, `f 1`, …, `f (N - 1)` in turn, each on the state the one before left. The last `n`
    turns of them. -/
def turns {α : Type} (N : Nat) (f : Fin N → α → P nD τ sig Λ F α) (n : Nat) : n ≤ N → α → P nD τ sig Λ F α :=
  Nat.rec (motive := fun n => n ≤ N → α → P nD τ sig Λ F α) (fun _ a => .ret a)
    (fun n ih h a => (f ⟨N - (n + 1), Nat.sub_lt (Nat.lt_of_lt_of_le (Nat.succ_pos n) h) (Nat.succ_pos n)⟩ a).bind
      (ih (Nat.le_of_succ_le h))) n

/-- All `N` turns. -/
abbrev loop {α : Type} (N : Nat) (f : Fin N → α → P nD τ sig Λ F α) (a : α) : P nD τ sig Λ F α :=
  turns N f N (Nat.le_refl N) a

/-- All `N` turns of a program that returns nothing. -/
abbrev each (N : Nat) (f : Fin N → P nD τ sig Λ F PUnit) : P nD τ sig Λ F PUnit := loop N (fun i _ => f i) ⟨⟩

/-! ### The quantiser -/

/-- Group `g`'s columns of the token block. -/
theorem xcol_inb (g : Fin 56) : ∀ a, (![0, 128 * g.val] : Fin 2 → Nat) a + S256x128.size a ≤ S256x7168.size a := by
  revert g; decide +kernel

/-- Column `g` of a 256 × 128 scratch buffer. -/
theorem col_inb (g : Fin 56) : ∀ a, (![0, g.val] : Fin 2 → Nat) a + S256x1.size a ≤ S256x128.size a := by
  revert g; decide +kernel

/-- The largest absolute value of each row of a group. -/
def rowMax (v : Vec F S256x128 .bf16) : FVec F S256x1 .f32 :=
  shapeCast S256x1 (multiReduction .maximumf [1] S256
    (absf (extf .f32 (shapeCast S256x128 v (by decide)) (by decide))) 0xFF800000#32 (by decide) (.inl rfl) rfl) (by decide)

/-- Group `g`'s row maxima, written to their column. -/
def amaxG (b : Bufs sig) (g : Fin 56) : P nD τ sig Λ F PUnit := do
  let v : Vec F S256x128 .bf16 ← Prog.lift (.load b.x (Rect.unit (s := S256x7168) ![0, 128 * g.val] S256x128.size (xcol_inb g)).toLoadRect (View.loadsAt_vmem pos_S256x128))
  let d : Vec F S256x1 .f32 ← Prog.lift (.load b.amax (Rect.unit (s := S256x128) ![0, g.val] S256x1.size (col_inb g)).toLoadRect (View.loadsAt_vmem pos_S256x1))
  Prog.lift (.store b.amax (Rect.unit (s := S256x128) ![0, g.val] S256x1.size (col_inb g)) (shapeCast S256x1 (rowMax v) (by decide)) Finset.univ (View.stores_vmem_bits_univ pos_S256x1 rfl) (.inl rfl))

/-- One step of the exponent search: the bit `t` is kept if the power of two it makes is at most the
    value. -/
def bit (v : FVec F S256x56 .f32) (t : BitVec 32) (e : IVec S256x56 32) : IVec S256x56 32 :=
  select (cmpf .oge v (bitcastToFloat .f32 (shli (ori e (broadcast S256x56 t)) (broadcast S256x56 23#32))))
    (ori e (broadcast S256x56 t)) e

/-- The biased exponent of each value, found bit by bit. -/
def biased (v : FVec F S256x56 .f32) : IVec S256x56 32 :=
  bit v 1#32 (bit v 2#32 (bit v 4#32 (bit v 8#32 (bit v 16#32 (bit v 32#32 (bit v 64#32
    (bit v 128#32 (broadcast S256x56 0#32))))))))

/-- The biased exponent the scale is made of: 126 where the value has none of its own. -/
def expo (a : FVec F S256x56 .f32) : IVec S256x56 32 :=
  select (ori (ori (cmpi .eq (biased (mulf a (broadcast S256x56 (Scalar.ofBits .f32 0x3B124925#32)))) (broadcast S256x56 0#32))
      (cmpi .eq (biased (mulf a (broadcast S256x56 (Scalar.ofBits .f32 0x3B124925#32)))) (broadcast S256x56 255#32)))
      (cmpf .oeq a (broadcast S256x56 (Scalar.ofBits .f32 0x00000000#32))))
    (broadcast S256x56 126#32) (biased (mulf a (broadcast S256x56 (Scalar.ofBits .f32 0x3B124925#32))))

/-- The scales. -/
def scaleOf (a : FVec F S256x56 .f32) : FVec F S256x56 .f32 :=
  bitcastToFloat .f32 (shli (addi (expo a) (broadcast S256x56 1#32)) (broadcast S256x56 23#32))

/-- Their reciprocals. -/
def invOf (a : FVec F S256x56 .f32) : FVec F S256x56 .f32 :=
  bitcastToFloat .f32 (shli (subi (broadcast S256x56 253#32) (expo a)) (broadcast S256x56 23#32))

/-- The scales and their reciprocals from the row maxima. -/
def scalesAll (b : Bufs sig) : P nD τ sig Λ F (FVec F S56x256 .f32) := do
  let a : Vec F S256x56 .f32 ← Prog.lift (.load b.amax (Rect.unit (s := S256x128) ![0, 0] S256x56.size (by decide)).toLoadRect (View.loadsAt_vmem pos_S256x56))
  let d : Vec F S256x56 .f32 ← Prog.lift (.load b.scales (Rect.unit (s := S256x56) ![0, 0] S256x56.size (by decide)).toLoadRect (View.loadsAt_vmem pos_S256x56))
  Prog.lift (.store b.scales (Rect.unit (s := S256x56) ![0, 0] S256x56.size (by decide)) (scaleOf a) Finset.univ (View.stores_vmem_bits_univ pos_S256x56 rfl) (.inl rfl))
  let d : Vec F S256x56 .f32 ← Prog.lift (.load b.inv (Rect.unit (s := S256x128) ![0, 0] S256x56.size (by decide)).toLoadRect (View.loadsAt_vmem pos_S256x56))
  Prog.lift (.store b.inv (Rect.unit (s := S256x128) ![0, 0] S256x56.size (by decide)) (shapeCast S256x56 (invOf a) (by decide)) Finset.univ (View.stores_vmem_bits_univ pos_S256x56 rfl) (.inl rfl))
  pure (transpose S56x256 [1, 0] (scaleOf a) (by decide))

/-- A group's scales of the weights lie in their buffer. -/
theorem wsb_inb (g : Fin 56) : ∀ a, (![g.val, 0, 0] : Fin 3 → Nat) a + S1x18x128.size a ≤ S56x18x128.size a := by
  revert g; decide +kernel

/-- A group's combined scales lie in their buffer. -/
theorem srow_inb (g : Fin 56) (j : Fin 2) : ∀ a, (![g.val, 0, 128 * j.val] : Fin 3 → Nat) a + S1x18x128.size a ≤ S56x18x256.size a := by
  revert g j; decide +kernel

/-- A row of the transposed scales, one unit's half. -/
theorem srow_slices (g : Fin 56) (j : Fin 2) : S56x256.Slices ![g.val, 128 * j.val] S1x128 := by
  revert g j; decide +kernel

/-- The combined scales of group `g` and half `j` of the tokens. -/
def srowVal (t : FVec F S56x256 .f32) (g : Fin 56) (j : Fin 2) (w : Vec F S1x18x128 .f32) : FVec F S1x18x128 .f32 :=
  shapeCast S1x18x128 (mulf (shapeCast S18x128 w (by decide))
    (broadcastTo S18x128 (extractStridedSlice S1x128 ![g.val, 128 * j.val] t (srow_slices g j)) (by decide))) (by decide)

/-- The combined scales of a group for one unit. -/
def srowGJ (b : Bufs sig) (t : FVec F S56x256 .f32) (g : Fin 56) (j : Fin 2) : P nD τ sig Λ F PUnit := do
  let w : Vec F S1x18x128 .f32 ← Prog.lift (.load b.wsb (Rect.unit (s := S56x18x128) ![g.val, 0, 0] S1x18x128.size (wsb_inb g)).toLoadRect (View.loadsAt_vmem pos_S1x18x128))
  let d : Vec F S1x18x128 .f32 ← Prog.lift (.load b.srow (Rect.unit (s := S56x18x256) ![g.val, 0, 128 * j.val] S1x18x128.size (srow_inb g j)).toLoadRect (View.loadsAt_vmem pos_S1x18x128))
  Prog.lift (.store b.srow (Rect.unit (s := S56x18x256) ![g.val, 0, 128 * j.val] S1x18x128.size (srow_inb g j)) (srowVal t g j w) Finset.univ (View.stores_vmem_bits_univ pos_S1x18x128 rfl) (.inl rfl))

/-- The combined scales of a group. -/
def srowG (b : Bufs sig) (t : FVec F S56x256 .f32) (g : Fin 56) : P nD τ sig Λ F PUnit := each 2 fun j => srowGJ b t g j

/-- The codes of a group. -/
def codeOf (v : Vec F S256x128 .bf16) (i : Vec F S256x1 .f32) : FVec F S256x128 .fp8e4m3 :=
  truncf .fp8e4m3 (minimumf (broadcast S256x128 (Scalar.ofBits .f32 0x43E00000#32))
    (maximumf (broadcast S256x128 (Scalar.ofBits .f32 0xC3E00000#32))
      (mulf (extf .f32 (shapeCast S256x128 v (by decide)) (by decide)) (broadcastTo S256x128 i (by decide))))) (by decide)

/-- The store of a group's codes is aligned. -/
theorem codes_packed (g : Fin 56) : (Rect.unit (s := S256x7168) ![0, 128 * g.val] S256x128.size (xcol_inb g)).PackedRows (EltTy.packing .fp8e4m3) := by
  revert g; decide +kernel

/-- A group's part of a tile lies in the tiles. -/
theorem rhs_inb (g : Fin 56) (j : Fin 2) : ∀ a, (![g.val / 2, j.val, 128 * (g.val % 2), 128 * (g.val % 2)] : Fin 4 → Nat) a + S1x1x128x128.size a ≤ S28x2x256x256.size a := by
  revert g j; decide +kernel

/-- The store of it is aligned. -/
theorem rhs_packed (g : Fin 56) (j : Fin 2) : (Rect.unit (s := S28x2x256x256) ![g.val / 2, j.val, 128 * (g.val % 2), 128 * (g.val % 2)] S1x1x128x128.size (rhs_inb g j)).PackedRows (EltTy.packing .fp8e4m3) := by
  revert g j; decide +kernel

/-- One unit's half of a group's codes. -/
theorem code_slices (j : Fin 2) : S256x128.Slices ![128 * j.val, 0] S128x128 := by
  revert j; decide +kernel

/-- Half `j` of a group's codes, into its diagonal block of the right-hand tile. -/
def rhsGJ (b : Bufs sig) (c : FVec F S256x128 .fp8e4m3) (g : Fin 56) (j : Fin 2) : P nD τ sig Λ F PUnit := do
  let d : Vec F S1x1x128x128 .fp8e4m3 ← Prog.lift (.load b.rhs (Rect.unit (s := S28x2x256x256) ![g.val / 2, j.val, 128 * (g.val % 2), 128 * (g.val % 2)] S1x1x128x128.size (rhs_inb g j)).toLoadRect (View.loadsAt_vmem pos_S1x1x128x128))
  Prog.lift (.store b.rhs (Rect.unit (s := S28x2x256x256) ![g.val / 2, j.val, 128 * (g.val % 2), 128 * (g.val % 2)] S1x1x128x128.size (rhs_inb g j))
    (shapeCast S1x1x128x128 (extractStridedSlice S128x128 ![128 * j.val, 0] c (code_slices j)) (by decide)) Finset.univ
    (View.stores_vmem pos_S1x1x128x128 (b.hrhs.storeExact_slice rfl _ (rhs_packed g j)) (fun _ => rfl)) (.inl rfl))

/-- The codes of a group. -/
def codesG (b : Bufs sig) (g : Fin 56) : P nD τ sig Λ F PUnit := do
  let v : Vec F S256x128 .bf16 ← Prog.lift (.load b.x (Rect.unit (s := S256x7168) ![0, 128 * g.val] S256x128.size (xcol_inb g)).toLoadRect (View.loadsAt_vmem pos_S256x128))
  let i : Vec F S256x1 .f32 ← Prog.lift (.load b.inv (Rect.unit (s := S256x128) ![0, g.val] S256x1.size (col_inb g)).toLoadRect (View.loadsAt_vmem pos_S256x1))
  let d : Vec F S256x128 .fp8e4m3 ← Prog.lift (.load b.codes (Rect.unit (s := S256x7168) ![0, 128 * g.val] S256x128.size (xcol_inb g)).toLoadRect (View.loadsAt_vmem pos_S256x128))
  Prog.lift (.store b.codes (Rect.unit (s := S256x7168) ![0, 128 * g.val] S256x128.size (xcol_inb g)) (codeOf v i) Finset.univ
    (View.stores_vmem pos_S256x128 (b.hcodes.storeExact_slice rfl _ (codes_packed g)) (fun _ => rfl)) (.inl rfl))
  each 2 fun j => rhsGJ b (codeOf v i) g j

/-! ### The matrix unit -/

/-- Every slot lies in the accumulator. -/
theorem fits_slot (k : Nat) : Mxu.Fits (32 * (k % 8)) 128 := by
  have := Nat.mod_lt k (show 0 < 8 by decide)
  refine ⟨?_, by decide, ?_⟩ <;> omega

/-- The offsets of one trip's accesses: the weight blocks, the right-hand tiles pushed, the rows of
    combined scales. A trip is four pairs; `R u` is the pair after the trip's `u`-th, `S d` the pair
    before its `d`-th. -/
structure Offs where
  W : Fin 4 → Fin 18 → Fin 3 → Nat
  hW : ∀ u c a, W u c a + S1x128x256.size a ≤ S28x2304x256.size a
  R : Fin 4 → Fin 2 → Fin 4 → Nat
  hR : ∀ u j a, R u j a + S1x1x256x256.size a ≤ S28x2x256x256.size a
  S : Fin 5 → Fin 18 → Fin 2 → Fin 2 → Fin 3 → Nat
  hS : ∀ d c h j a, S d c h j a + S1x1x128.size a ≤ S56x18x256.size a

/-- The right-hand tile at `o`, pushed to a register of unit `j`. -/
def push (b : Bufs sig) (o : Fin 4 → Nat) (ho : ∀ a, o a + S1x1x256x256.size a ≤ S28x2x256x256.size a) (j r : Fin 2) (s : Mxu F) : P nD τ sig Λ F (Mxu F) := do
  let v : Vec F S1x1x256x256 .fp8e4m3 ← Prog.lift (.load b.rhs (Rect.unit (s := S28x2x256x256) o S1x1x256x256.size ho).toLoadRect (View.loadsAt_vmem pos_S1x1x256x256))
  s.pushRhs j r true (extf .bf16 (shapeCast S256x256 v (by decide)) (by decide))

/-- The scaled product of one column block: the two halves of the accumulator's columns, each by its
    group's row of combined scales, added. -/
def updOf (v : FVec F S128x256 .f32) (s₀ s₁ : Vec F S1x1x128 .f32) : FVec F S128x128 .f32 :=
  addf
    (mulf (extractStridedSlice S128x128 ![0, 0] v (by decide)) (broadcastTo S128x128 (shapeCast S1x128 s₀ (by decide)) (by decide)))
    (mulf (extractStridedSlice S128x128 ![0, 128] v (by decide)) (broadcastTo S128x128 (shapeCast S1x128 s₁ (by decide)) (by decide)))

/-- A chunk of the sums lies in its buffer. -/
theorem out_inb (c : Fin 18) (j : Fin 2) : ∀ a, (![128 * c.val, 128 * j.val] : Fin 2 → Nat) a + S128x128.size a ≤ S2304x256.size a := by
  revert c j; decide +kernel

/-- Block `(c, j)` of the transposed output. -/
abbrev outRect (c : Fin 18) (j : Fin 2) : Rect S2304x256 := Rect.unit (s := S2304x256) ![128 * c.val, 128 * j.val] S128x128.size (out_inb c j)

/-- The update stored over what the block held, or added to it. -/
def putOut (b : Bufs sig) (asg : Bool) (c : Fin 18) (j : Fin 2) (u : FVec F S128x128 .f32) : P nD τ sig Λ F PUnit :=
  cond asg
    (do
      let d : Vec F S128x128 .f32 ← Prog.lift (.load b.out (outRect c j).toLoadRect (View.loadsAt_vmem pos_S128x128))
      Prog.lift (.store b.out (outRect c j) (shapeCast S128x128 u (by decide)) Finset.univ (View.stores_vmem_bits_univ pos_S128x128 rfl) (.inl rfl)))
    (do
      let o : Vec F S128x128 .f32 ← Prog.lift (.load b.out (outRect c j).toLoadRect (View.loadsAt_vmem pos_S128x128))
      let d : Vec F S128x128 .f32 ← Prog.lift (.load b.out (outRect c j).toLoadRect (View.loadsAt_vmem pos_S128x128))
      Prog.lift (.store b.out (outRect c j) (shapeCast S128x128 (addf o u) (by decide)) Finset.univ (View.stores_vmem_bits_univ pos_S128x128 rfl) (.inl rfl)))

/-- One accumulator popped, scaled and put into its block. -/
def drainJ (b : Bufs sig) (asg : Bool) (S : Fin 2 → Fin 2 → Fin 3 → Nat) (hS : ∀ h j a, S h j a + S1x1x128.size a ≤ S56x18x256.size a)
    (c : Fin 18) (k : Nat) (j : Fin 2) (s : Mxu F) : P nD τ sig Λ F (Mxu F) := do
  let s₀ : Vec F S1x1x128 .f32 ← Prog.lift (.load b.srow (Rect.unit (s := S56x18x256) (S 0 j) S1x1x128.size (hS 0 j)).toLoadRect (View.loadsAt_vmem pos_S1x1x128))
  let s₁ : Vec F S1x1x128 .f32 ← Prog.lift (.load b.srow (Rect.unit (s := S56x18x256) (S 1 j) S1x1x128.size (hS 1 j)).toLoadRect (View.loadsAt_vmem pos_S1x1x128))
  putOut b asg c j (updOf (s.read j (32 * (k % 8)) (fits_slot k)) s₀ s₁)
  pure (s.pop j (32 * (k % 8)) 128 (fits_slot k))

/-- Both units' accumulators of slot `k % 8`. -/
def drain (b : Bufs sig) (asg : Bool) (S : Fin 2 → Fin 2 → Fin 3 → Nat) (hS : ∀ h j a, S h j a + S1x1x128.size a ≤ S56x18x256.size a)
    (c : Fin 18) (k : Nat) (s : Mxu F) : P nD τ sig Λ F (Mxu F) :=
  loop 2 (fun j s => drainJ b asg S hS c k j s) s

/-- Accumulate a weight block into slot `k % 8` of both units, from the tile just staged. -/
def accStaged (k : Nat) (r : Fin 2) (w : FVec F S128x256 .bf16) (s : Mxu F) : P nD τ sig Λ F (Mxu F) :=
  pure ((s.accLhs 0 r (32 * (k % 8)) w (fits_slot k)).accLhs 1 r (32 * (k % 8)) w (fits_slot k))

/-- The same from the tile loaded before. -/
def accLoaded (k : Nat) (w : FVec F S128x256 .bf16) (s : Mxu F) : P nD τ sig Λ F (Mxu F) := do
  let s ← s.accLhsLoaded 0 (32 * (k % 8)) w (fits_slot k)
  s.accLhsLoaded 1 (32 * (k % 8)) w (fits_slot k)

/-- Step `k` of a trip: column block `k % 18` of its pair `k / 18`, then the accumulator of seven
    steps before. -/
def step (b : Bufs sig) (first last : Bool) (o : Offs) (k : Fin 72) (s : Mxu F) : P nD τ sig Λ F (Mxu F) := do
  let w : Vec F S1x128x256 .fp8e4m3 ← Prog.lift (.load b.wt (Rect.unit (s := S28x2304x256) (o.W ⟨k.val / 18, by omega⟩ ⟨k.val % 18, by omega⟩) S1x128x256.size (o.hW ⟨k.val / 18, by omega⟩ ⟨k.val % 18, by omega⟩)).toLoadRect (View.loadsAt_vmem pos_S1x128x256))
  let s ← cond (Nat.beq (k.val % 18) 0)
    (accStaged k.val ⟨(k.val / 18) % 2, by omega⟩ (extf .bf16 (shapeCast S128x256 w (by decide)) (by decide)) s)
    (accLoaded k.val (extf .bf16 (shapeCast S128x256 w (by decide)) (by decide)) s)
  let s ← cond (Nat.beq (k.val % 18) 0 && !(last && Nat.beq (k.val / 18) 3))
    (loop 2 (fun j s => push b (o.R ⟨k.val / 18, by omega⟩ j) (o.hR ⟨k.val / 18, by omega⟩ j) j ⟨(k.val / 18 + 1) % 2, by omega⟩ s) s)
    (pure s)
  cond (first && Nat.blt k.val 7) (pure s)
    (drain b (first && Nat.blt k.val 25) (o.S ⟨(k.val + 11) / 18, by omega⟩ ⟨(k.val + 11) % 18, by omega⟩)
      (o.hS ⟨(k.val + 11) / 18, by omega⟩ ⟨(k.val + 11) % 18, by omega⟩) ⟨(k.val + 11) % 18, by omega⟩ (k.val + 1) s)

/-- A trip: four pairs. -/
def trip (b : Bufs sig) (first last : Bool) (o : Offs) (s : Mxu F) : P nD τ sig Λ F (Mxu F) :=
  loop 72 (fun k s => step b first last o k s) s

/-- The constant offsets of the weights lie in the buffer. -/
theorem constW (p : Fin 25) (u : Fin 4) (c : Fin 18) : ∀ a, (![p.val + u.val, 128 * c.val, 0] : Fin 3 → Nat) a + S1x128x256.size a ≤ S28x2304x256.size a := by
  revert p u c; decide +kernel

/-- The constant offsets of the tiles lie in the buffer. -/
theorem constR (p : Fin 25) (u : Fin 4) (j : Fin 2) : ∀ a, (![(p.val + u.val + 1) % 28, j.val, 0, 0] : Fin 4 → Nat) a + S1x1x256x256.size a ≤ S28x2x256x256.size a := by
  revert p u j; decide +kernel

/-- The constant offsets of the combined scales lie in the buffer. -/
theorem constS (p : Fin 25) (d : Fin 5) (c : Fin 18) (h j : Fin 2) : ∀ a, (![2 * (p.val + d.val - 1) + h.val, c.val, 128 * j.val] : Fin 3 → Nat) a + S1x1x128.size a ≤ S56x18x256.size a := by
  revert p d c h j; decide +kernel

/-- The offsets of the trip that starts at pair `p`. -/
def offs (p : Fin 25) : Offs where
  W u c := ![p.val + u.val, 128 * c.val, 0]
  hW u c := constW p u c
  R u j := ![(p.val + u.val + 1) % 28, j.val, 0, 0]
  hR u j := constR p u j
  S d c h j := ![2 * (p.val + d.val - 1) + h.val, c.val, 128 * j.val]
  hS d c h j := constS p d c h j

/-- The loop over the middle trips. -/
@[reducible] def midLoop : Scf.Loop 32 := ⟨1#32, Scalar.addi 1#32 5#32, 1#32⟩

/-- The pair a middle trip's accesses name: its first plus `d`. -/
def pairOf (t : Fin midLoop.trips) (d : BitVec 32) : BitVec 32 := Scalar.addi (Scalar.muli (Scf.iv 1#32 1#32 t) 4#32) d

/-- The offsets of a middle trip, as the kernel computes them. -/
def midW (t : Fin midLoop.trips) (u : Fin 4) (c : Fin 18) : Fin 3 → Nat :=
  ![(Scalar.indexCast (pairOf t (BitVec.ofNat 32 u.val))).toNat, 128 * c.val, 0]

/-- The middle trips' tile offsets, as the kernel computes them. -/
def midR (t : Fin midLoop.trips) (u : Fin 4) (j : Fin 2) : Fin 4 → Nat :=
  ![(Scalar.indexCast (Scalar.addi (pairOf t (BitVec.ofNat 32 u.val)) 1#32)).toNat, j.val, 0, 0]

/-- The middle trips' scale offsets, as the kernel computes them. -/
def midS (t : Fin midLoop.trips) (d : Fin 5) (c : Fin 18) (h j : Fin 2) : Fin 3 → Nat :=
  ![(Scalar.indexCast (cond (Nat.beq h.val 0)
      (Scalar.muli 2#32 (pairOf t (BitVec.ofNat 32 ((d.val + 4294967295) % 4294967296))))
      (Scalar.addi (Scalar.muli 2#32 (pairOf t (BitVec.ofNat 32 ((d.val + 4294967295) % 4294967296)))) 1#32))).toNat, c.val, 128 * j.val]

/-- The middle trips' weight offsets lie in the buffer. -/
theorem midW_inb (t : Fin midLoop.trips) (u : Fin 4) (c : Fin 18) : ∀ a, midW t u c a + S1x128x256.size a ≤ S28x2304x256.size a := by
  revert t u c; decide +kernel

/-- The middle trips' tile offsets lie in the buffer. -/
theorem midR_inb (t : Fin midLoop.trips) (u : Fin 4) (j : Fin 2) : ∀ a, midR t u j a + S1x1x256x256.size a ≤ S28x2x256x256.size a := by
  revert t u j; decide +kernel

/-- The middle trips' scale offsets lie in the buffer. -/
theorem midS_inb (t : Fin midLoop.trips) (d : Fin 5) (c : Fin 18) (h j : Fin 2) : ∀ a, midS t d c h j a + S1x1x128.size a ≤ S56x18x256.size a := by
  revert t d c h j; decide +kernel

/-- All the offsets of a middle trip. -/
def midOffs (t : Fin midLoop.trips) : Offs := ⟨midW t, midW_inb t, midR t, midR_inb t, midS t, midS_inb t⟩

/-- The middle loop's bounds are in range. -/
theorem midLoop_ok : midLoop.OK := by decide +kernel

/-- The accumulators popped once before the first grid point, so that each is known to be empty. -/
def popAll (s : Mxu F) : Mxu F :=
  let pops (q : Fin 2) (s : Mxu F) : Mxu F := ((((((((s.pop q 0 128 (by decide)).pop q 32 128 (by decide)).pop q 64 128 (by decide)).pop q 96 128 (by decide)).pop q
    128 128 (by decide)).pop q 160 128 (by decide)).pop q 192 128 (by decide)).pop q 224 128 (by decide))
  pops 1 (pops 0 s)

/-- The tiles as a whole. -/
theorem rhs_inb_all : ∀ a, (![0, 0, 0, 0] : Fin 4 → Nat) a + S28x2x256x256.size a ≤ S28x2x256x256.size a := by decide

/-- The store of all the tiles is aligned. -/
theorem rhs_packed_all : (Rect.unit (s := S28x2x256x256) ![0, 0, 0, 0] S28x2x256x256.size rhs_inb_all).PackedRows (EltTy.packing .fp8e4m3) := by
  decide +kernel

/-- The first grid point clears the right-hand tiles. -/
def start (b : Bufs sig) (first : BitVec 1) : P nD τ sig Λ F (Mxu F) :=
  if _h : first = 1#1 then do
    let d : Vec F S28x2x256x256 .fp8e4m3 ← Prog.lift (.load b.rhs (Rect.unit (s := S28x2x256x256) ![0, 0, 0, 0] S28x2x256x256.size rhs_inb_all).toLoadRect (View.loadsAt_vmem (by decide)))
    Prog.lift (.store b.rhs (Rect.unit (s := S28x2x256x256) ![0, 0, 0, 0] S28x2x256x256.size rhs_inb_all)
      (shapeCast S28x2x256x256 (broadcast S28x2x256x256 (Scalar.ofBits .fp8e4m3 0x00#8)) (by decide)) Finset.univ
      (View.stores_vmem (by decide) (b.hrhs.storeExact_slice rfl _ rhs_packed_all) (fun _ => rfl)) (.inl rfl))
    pure (popAll Mxu.init)
  else pure Mxu.init

/-- The store of the product's rows is aligned. -/
theorem y_packed : (Rect.unit (s := S256x2304) ![0, 0] S256x2304.size (by decide)).PackedRows (EltTy.packing .bf16) := by
  decide +kernel

/-- The transposed output, transposed back and rounded. -/
def finish (b : Bufs sig) : P nD τ sig Λ F PUnit := do
  let v : Vec F S2304x256 .f32 ← Prog.lift (.load b.out (Rect.unit (s := S2304x256) ![0, 0] S2304x256.size (by decide)).toLoadRect (View.loadsAt_vmem (by decide)))
  let d : Vec F S256x2304 .bf16 ← Prog.lift (.load b.y (Rect.unit (s := S256x2304) ![0, 0] S256x2304.size (by decide)).toLoadRect (View.loadsAt_vmem (by decide)))
  Prog.lift (.store b.y (Rect.unit (s := S256x2304) ![0, 0] S256x2304.size (by decide)) (truncf .bf16 (transpose S256x2304 [1, 0] v (by decide)) (by decide)) Finset.univ
    (View.stores_vmem (by decide) (b.hy.storeExact_slice rfl _ y_packed) (fun _ => rfl)) (.inl rfl))

/-- The quantising part of the body. -/
def quantise (b : Bufs sig) : P nD τ sig Λ F PUnit := do
  each 56 fun g => amaxG b g
  let t ← scalesAll b
  each 56 fun g => srowG b t g
  each 56 fun g => codesG b g

/-- The multiplying part of the body. -/
def multiply (b : Bufs sig) (s : Mxu F) : P nD τ sig Λ F (Mxu F) := do
  let s ← loop 2 (fun j s => push b ![0, j.val, 0, 0] (by revert j; decide) j 0 s) s
  let s ← trip b true false (offs 0) s
  let s ← Scf.Loop.for midLoop midLoop_ok s fun t s => trip b false false (midOffs t) s
  let s ← trip b false true (offs 24) s
  loop 7 (fun k s => drain b false ((offs 24).S 4 ⟨k.val + 11, by omega⟩) ((offs 24).hS 4 ⟨k.val + 11, by omega⟩) ⟨k.val + 11, by omega⟩ (k.val + 1) s) s

/-- The body. -/
def body (b : Bufs sig) (first : BitVec 1) : P nD τ sig Λ F PUnit := do
  let s ← start b first
  quantise b
  let s ← multiply b s
  finish b
  s.exit

end Rolled

end

end
-- ==== Proof.MatchKernel.lean ====
module

public import proofs.«01_k».proof.Proof.Gen.Kernel
public import proofs.«01_k».proof.Proof.Rolled
public import Idealize.ShloMosaic.Lib.Pipeline.Regions

/-! The printed kernel body is the body written with loops (`Rolled.body`), at the kernel's own
buffers. -/

@[expose] public section
set_option maxRecDepth 200000
set_option maxHeartbeats 0

noncomputable section
namespace Cert.Kernel.Match
open Idealize.ShloMosaic Idealize.SL.Sem Cert.Kernel Rolled
variable {F : FTy → Type} [FloatOps F]

/-- Three nested sequencings, re-associated. -/
theorem bind3 {E : Type → Type*} {α β γ δ : Type} {X : Prog E α} {f : α → Prog E β} {g : β → Prog E γ} {h : γ → Prog E δ} {k : α → Prog E δ}
   (H : ∀ s, ((f s >>= g) >>= h) = k s) : (((X >>= f) >>= g) >>= h) = X >>= k := by
  rw [bind_assoc, bind_assoc]; congr 1; funext s; rw [← H, bind_assoc]

/-- The first stretch of the printed body: the conditional clearing, then the first groups. -/
theorem head_eq (i : grid0.Coords) (arg1 : Memref Cert.Kernel.sig .tc .vmem Cert.Kernel.S256x7168 .bf16) (harg1 : arg1.IsWhole) (arg2 : Memref Cert.Kernel.sig .tc .vmem Cert.Kernel.S28x2304x256 .fp8e4m3) (harg2 : arg2.IsWhole) (arg3 : Memref Cert.Kernel.sig .tc .vmem Cert.Kernel.S56x18x128 .f32) (harg3 : arg3.IsWhole) (arg4 : Memref Cert.Kernel.sig .tc .vmem Cert.Kernel.S256x2304 .bf16) (harg4 : arg4.IsWhole) (arg5 : Memref Cert.Kernel.sig .tc .vmem Cert.Kernel.S256x7168 .fp8e4m3) (harg5 : arg5.IsWhole) (arg6 : Memref Cert.Kernel.sig .tc .vmem Cert.Kernel.S256x56 .f32) (harg6 : arg6.IsWhole) (arg7 : Memref Cert.Kernel.sig .tc .vmem Cert.Kernel.S28x2x256x256 .fp8e4m3) (harg7 : arg7.IsWhole) (arg8 : Memref Cert.Kernel.sig .tc .vmem Cert.Kernel.S256x128 .f32) (harg8 : arg8.IsWhole) (arg9 : Memref Cert.Kernel.sig .tc .vmem Cert.Kernel.S256x128 .f32) (harg9 : arg9.IsWhole) (arg10 : Memref Cert.Kernel.sig .tc .vmem Cert.Kernel.S56x18x256 .f32) (harg10 : arg10.IsWhole) (arg11 : Memref Cert.Kernel.sig .tc .vmem Cert.Kernel.S2304x256 .f32) (harg11 : arg11.IsWhole) :
   k0_part102 (F := F) i arg1 harg1 arg2 harg2 arg3 harg3 arg4 harg4 arg5 harg5 arg6 harg6 arg7 harg7 arg8 harg8 arg9 harg9 arg10 harg10 arg11 harg11 = (start ⟨arg1, harg1, arg2, harg2, arg3, harg3, arg4, harg4, arg5, harg5, arg6, harg6, arg7, harg7, arg8, harg8, arg9, harg9, arg10, harg10, arg11, harg11⟩ (Scalar.cmpi .ne (Scalar.extui (Scalar.cmpi .eq (BitVec.ofNat 32 (i 0).val) 0#32) : BitVec 32) 0#32) >>= fun s => do
     amaxG ⟨arg1, harg1, arg2, harg2, arg3, harg3, arg4, harg4, arg5, harg5, arg6, harg6, arg7, harg7, arg8, harg8, arg9, harg9, arg10, harg10, arg11, harg11⟩ 0
     amaxG ⟨arg1, harg1, arg2, harg2, arg3, harg3, arg4, harg4, arg5, harg5, arg6, harg6, arg7, harg7, arg8, harg8, arg9, harg9, arg10, harg10, arg11, harg11⟩ 1
     amaxG ⟨arg1, harg1, arg2, harg2, arg3, harg3, arg4, harg4, arg5, harg5, arg6, harg6, arg7, harg7, arg8, harg8, arg9, harg9, arg10, harg10, arg11, harg11⟩ 2
     let v : Vec F S256x128 .bf16 ← Prog.lift (.load arg1 (Rect.unit (s := S256x7168) ![0, 128 * 3] S256x128.size (xcol_inb 3)).toLoadRect (View.loadsAt_vmem pos_S256x128))
     pure ⟨s, absf (extf .f32 (shapeCast S256x128 v (by decide)) (by decide))⟩) := by
  unfold k0_part102 start
  by_cases hc : (Scalar.cmpi .ne (Scalar.extui (Scalar.cmpi .eq (BitVec.ofNat 32 (i 0).val) 0#32) : BitVec 32) 0#32) = 1#1
  · simp only [dif_pos hc]; rfl
  · simp only [dif_neg hc]; rfl

/-- The whole printed body is `Rolled.body`. -/
theorem scoped_eq (i : grid0.Coords) (arg1 : Memref Cert.Kernel.sig .tc .vmem Cert.Kernel.S256x7168 .bf16) (harg1 : arg1.IsWhole) (arg2 : Memref Cert.Kernel.sig .tc .vmem Cert.Kernel.S28x2304x256 .fp8e4m3) (harg2 : arg2.IsWhole) (arg3 : Memref Cert.Kernel.sig .tc .vmem Cert.Kernel.S56x18x128 .f32) (harg3 : arg3.IsWhole) (arg4 : Memref Cert.Kernel.sig .tc .vmem Cert.Kernel.S256x2304 .bf16) (harg4 : arg4.IsWhole) (arg5 : Memref Cert.Kernel.sig .tc .vmem Cert.Kernel.S256x7168 .fp8e4m3) (harg5 : arg5.IsWhole) (arg6 : Memref Cert.Kernel.sig .tc .vmem Cert.Kernel.S256x56 .f32) (harg6 : arg6.IsWhole) (arg7 : Memref Cert.Kernel.sig .tc .vmem Cert.Kernel.S28x2x256x256 .fp8e4m3) (harg7 : arg7.IsWhole) (arg8 : Memref Cert.Kernel.sig .tc .vmem Cert.Kernel.S256x128 .f32) (harg8 : arg8.IsWhole) (arg9 : Memref Cert.Kernel.sig .tc .vmem Cert.Kernel.S256x128 .f32) (harg9 : arg9.IsWhole) (arg10 : Memref Cert.Kernel.sig .tc .vmem Cert.Kernel.S56x18x256 .f32) (harg10 : arg10.IsWhole) (arg11 : Memref Cert.Kernel.sig .tc .vmem Cert.Kernel.S2304x256 .f32) (harg11 : arg11.IsWhole) :
   cc0_scoped (F := F) i arg1 harg1 arg2 harg2 arg3 harg3 arg4 harg4 arg5 harg5 arg6 harg6 arg7 harg7 arg8 harg8 arg9 harg9 arg10 harg10 arg11 harg11 = body ⟨arg1, harg1, arg2, harg2, arg3, harg3, arg4, harg4, arg5, harg5, arg6, harg6, arg7, harg7, arg8, harg8, arg9, harg9, arg10, harg10, arg11, harg11⟩ (Scalar.cmpi .ne (Scalar.extui (Scalar.cmpi .eq (BitVec.ofNat 32 (i 0).val) 0#32) : BitVec 32) 0#32) := by
  unfold cc0_scoped k0_part341 k0_part343 k0_part254 body multiply
  rw [head_eq]
  refine bind3 fun s => ?_
  simp (config := {zeta := false}) only [Scf.for_eq]
  chain_rfl

end Cert.Kernel.Match
-- ==== Proof.Hoare.lean ====
module

public import proofs.«01_k».proof.Proof.Rolled
public import Idealize.ShloMosaic.Lib.Mxu.Lemmas
public import Idealize.ShloMosaic.Lib.Pipeline.FrameBody

/-! A small program logic for the rolled body: the eleven buffers' contents as one state, and a
triple saying what a program returns and leaves in it. -/

@[expose] public section

noncomputable section

namespace Rolled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The contents of the eleven buffers. -/
structure St (F : FTy → Type) [FloatOps F] where
  x : Vec F S256x7168 .bf16
  wt : Vec F S28x2304x256 .fp8e4m3
  wsb : Vec F S56x18x128 .f32
  y : Vec F S256x2304 .bf16
  codes : Vec F S256x7168 .fp8e4m3
  scales : Vec F S256x56 .f32
  rhs : Vec F S28x2x256x256 .fp8e4m3
  amax : Vec F S256x128 .f32
  inv : Vec F S256x128 .f32
  srow : Vec F S56x18x256 .f32
  out : Vec F S2304x256 .f32

variable {nD : Nat} {τ : Topo} {sig : RefSig} {Λ : Labels} {F : FTy → Type} [FloatOps F]

local notation "𝕄" => MT nD τ sig Unit (Elt F) ℕ (UR sig nD τ) ℕ

/-- The buffers owned whole, at these contents. -/
def own (c : Dev nD) (b : Bufs sig) (s : St F) : sProp 𝕄 :=
  iprop(owns (c : Thread nD τ) b.x fullShare s.x ∗ owns (c : Thread nD τ) b.wt fullShare s.wt
    ∗ owns (c : Thread nD τ) b.wsb fullShare s.wsb ∗ owns (c : Thread nD τ) b.y fullShare s.y
    ∗ owns (c : Thread nD τ) b.codes fullShare s.codes ∗ owns (c : Thread nD τ) b.scales fullShare s.scales
    ∗ owns (c : Thread nD τ) b.rhs fullShare s.rhs ∗ owns (c : Thread nD τ) b.amax fullShare s.amax
    ∗ owns (c : Thread nD τ) b.inv fullShare s.inv ∗ owns (c : Thread nD τ) b.srow fullShare s.srow
    ∗ owns (c : Thread nD τ) b.out fullShare s.out)

/-- `p`, run on the state `s`, returns a value and leaves a state that satisfy `Q`. -/
def T (defs : Defs nD τ sig (Elt F) Λ) (𝒱 : Variants) (c : Dev nD) (E : Set ℕ) (b : Bufs sig) {α : Type}
    (p : P nD τ sig Λ F α) (s : St F) (Q : α → St F → Prop) : Prop :=
  (own (τ := τ) c b s : sProp 𝕄) ⊢ wp frame (wpE defs 𝒱 (c : Thread nD τ) none) E p
    (fun a => iprop(∃ s', ⌜Q a s'⌝ ∗ own c b s'))

variable {defs : Defs nD τ sig (Elt F) Λ} {𝒱 : Variants} {c : Dev nD} {E : Set ℕ} {b : Bufs sig}
variable {α β : Type}

/-- A program that returns keeps the state. -/
theorem T.ret {a : α} {s : St F} {Q : α → St F → Prop} (h : Q a s) : T defs 𝒱 c E b (.ret a) s Q := by
  unfold T
  rw [wp_ret]
  iintro H
  imodintro
  iexists s
  isplitr
  · ipureintro; exact h
  iexact H

/-- Two programs in sequence: the second starts from what the first guarantees. -/
theorem T.bind {p : P nD τ sig Λ F α} {k : α → P nD τ sig Λ F β} {s : St F} {Q : α → St F → Prop} {R : β → St F → Prop}
    (hp : T defs 𝒱 c E b p s Q) (hk : ∀ a s', Q a s' → T defs 𝒱 c E b (k a) s' R) :
    T defs 𝒱 c E b (p.bind k) s R := by
  unfold T at *
  change _ ⊢ wp _ _ _ (p >>= k) _
  rw [wp_bind]
  refine hp.trans ?_
  apply wp_mono
  intro a
  iintro ⟨%s', %hQ, H⟩
  iapply (hk a s' hQ)
  iexact H

/-- A guarantee may be weakened. -/
theorem T.mono {p : P nD τ sig Λ F α} {s : St F} {Q R : α → St F → Prop}
    (hp : T defs 𝒱 c E b p s Q) (h : ∀ a s', Q a s' → R a s') : T defs 𝒱 c E b p s R := by
  unfold T at *
  refine hp.trans ?_
  apply wp_mono
  intro a
  iintro ⟨%s', %hQ, H⟩
  iexists s'
  isplitr
  · ipureintro; exact h a s' hQ
  iexact H

/-- The last `n` turns of a loop keep its invariant. -/
theorem T.turns {N : Nat} {f : Fin N → α → P nD τ sig Λ F α} {I : Nat → α → St F → Prop}
    (h : ∀ (k : Fin N) a s, I k.val a s → T defs 𝒱 c E b (f k a) s (I (k.val + 1))) :
    ∀ (n : Nat) (hn : n ≤ N) (a : α) (s : St F), I (N - n) a s → T defs 𝒱 c E b (turns N f n hn a) s (I N) := by
  intro n
  induction n with
  | zero => intro hn a s hI; exact T.ret (by simpa using hI)
  | succ n ih =>
    intro hn a s hI
    refine T.bind (h ⟨N - (n + 1), _⟩ a s hI) fun a' s' h' => ih (by omega) a' s' ?_
    have e : N - (n + 1) + 1 = N - n := by omega
    rw [← e]; exact h'

/-- A loop of `N` turns keeps an invariant indexed by the turn. -/
theorem T.loop {N : Nat} {f : Fin N → α → P nD τ sig Λ F α} (I : Nat → α → St F → Prop) {a : α} {s : St F} (h0 : I 0 a s)
    (h : ∀ (k : Fin N) a s, I k.val a s → T defs 𝒱 c E b (f k a) s (I (k.val + 1))) :
    T defs 𝒱 c E b (loop N f a) s (I N) :=
  T.turns h N (Nat.le_refl N) a s (by simpa using h0)

/-- The same of a loop that the kernel itself runs. -/
theorem T.for {w : Nat} {l : Scf.Loop w} {hok : l.OK} {f : Fin l.trips → α → P nD τ sig Λ F α}
    (I : Nat → α → St F → Prop) {a : α} {s : St F} (h0 : I 0 a s)
    (h : ∀ (k : Fin l.trips) a s, I k.val a s → T defs 𝒱 c E b (f k a) s (I (k.val + 1))) :
    T defs 𝒱 c E b (Scf.Loop.for l hok a f) s (I l.trips) := by
  have key := Scf.wp_for frame (wpE defs 𝒱 (c : Thread nD τ) none) E l.lb l.ub l.st hok a f
    (fun n a => iprop(∃ s', ⌜I n a s'⌝ ∗ (own (τ := τ) c b s' : sProp 𝕄)))
    (fun k a => by
      iintro ⟨%s', %hI, H⟩
      have h' := h k a s' hI
      unfold T at h'
      iapply h'
      iexact H)
    (Q := fun a => iprop(∃ s', ⌜I l.trips a s'⌝ ∗ (own (τ := τ) c b s' : sProp 𝕄)))
  unfold T
  refine BIBase.Entails.trans ?_ key
  iintro H
  isplitl
  · iexists s
    isplitr
    · ipureintro; exact h0
    iexact H
  · iintro %a' H
    iexact H

/-- A side condition that holds may be assumed. -/
theorem T.assume {p : Prop} {d : Decidable p} {k : PLift p → P nD τ sig Λ F α} {s : St F} {Q : α → St F → Prop} (h : p)
    (hk : T defs 𝒱 c E b (k ⟨h⟩) s Q) : T defs 𝒱 c E b (.op (.assume p d) k) s Q := by
  unfold T at *
  exact hk.trans (wp_assume (defs := defs) (k := k) 𝒱 (c : Thread nD τ) none E h)

variable (nD τ F b) in
/-- One of the state's buffers: how its contents are read and replaced, the others staying. -/
structure Fld {sh : Shape} {e : EltTy} (m : Memref sig .tc .vmem sh e)
    (get : St F → Vec F sh e) (set : St F → Vec F sh e → St F) : Prop where
  split : ∀ (c : Dev nD) (s : St F), (own (τ := τ) c b s : sProp 𝕄) ⊢ iprop(owns (c : Thread nD τ) m fullShare (get s)
    ∗ ∀ v, owns (c : Thread nD τ) m fullShare v -∗ own (τ := τ) c b (set s v))
  set_get : ∀ s, set s (get s) = s

/-- Contents with the block at `r` replaced. -/
def upd {sh : Shape} {e : EltTy} (X : Vec F sh e) (r : Rect sh) (w : r.shape.Idx → Elt F e) : Vec F sh e :=
  open Classical in fun i => if h : ∃ k, r.emb k = i then w h.choose else X i

/-- After a store, a place inside its rectangle holds what was stored. -/
theorem upd_emb {sh : Shape} {e : EltTy} (X : Vec F sh e) (r : Rect sh) (w : r.shape.Idx → Elt F e) (k : r.shape.Idx) :
    upd X r w (r.emb k) = w k := by
  have h : ∃ k', r.emb k' = r.emb k := ⟨k, rfl⟩
  unfold upd
  rw [dif_pos h]
  exact congrArg w (r.emb.injective h.choose_spec)

/-- After a store, a place outside its rectangle is as before. -/
theorem upd_miss {sh : Shape} {e : EltTy} (X : Vec F sh e) (r : Rect sh) (w : r.shape.Idx → Elt F e) {i : sh.Idx}
    (h : i ∉ r.set) : upd X r w i = X i := by
  unfold upd
  rw [dif_neg]
  rintro ⟨k, rfl⟩
  exact h (r.toLoadRect.idx_mem k)

/-- A load of the rectangle just stored gives what was stored. -/
theorem ld_upd {sh : Shape} {e : EltTy} (X : Vec F sh e) (r : Rect sh) (w : r.shape.Idx → Elt F e) :
    View.ld (upd X r w) r = w := funext fun k => upd_emb X r w k

/-- A load of a rectangle apart from the stored one gives what was there before. -/
theorem ld_upd_ne {sh : Shape} {e : EltTy} (X : Vec F sh e) (r r' : Rect sh) (w : r.shape.Idx → Elt F e)
    (h : ∀ k, r'.emb k ∉ r.set) : View.ld (upd X r w) r' = View.ld X r' := funext fun k => upd_miss X r w (h k)

/-- What a buffer reads after a store is the update of what it read before. -/
theorem read_store {sh : Shape} {e : EltTy} (m : Memref sig .tc .vmem sh e) (r : Rect sh) (w : r.shape.Idx → Elt F e)
    (f : m.view.ty.Contents (Elt F)) :
    m.view.read (Elt F) ((m.access r).write (Elt F) f w Finset.univ) = upd (m.view.read (Elt F) f) r w := by
  funext i
  by_cases hi : i ∈ r.set
  · obtain ⟨k, hk⟩ := r.exists_idx_of_mem hi
    change r.emb k = i at hk
    subst hk
    rw [upd_emb]
    exact View.read_slice_write_emb (v := m.view) (f := f) r w (Finset.mem_univ k)
  · rw [upd_miss _ _ _ hi]
    exact View.read_slice_write_of_not_mem (v := m.view) r f w _ (by rw [Rect.map_emb_univ]; exact hi)

variable {sh : Shape} {e : EltTy} {m : Memref sig .tc .vmem sh e} {get : St F → Vec F sh e} {set : St F → Vec F sh e → St F}

/-- A load gives the rectangle of the buffer's contents and changes nothing. -/
theorem T.load (hf : Fld nD τ F b m get set) {r : Rect sh} {hl : m.view.LoadsAt r.toLoadRect} {s : St F}
    {Q : (r.shape.Idx → Elt F e) → St F → Prop} (h : Q (View.ld (get s) r) s) :
    T defs 𝒱 c E b (Prog.lift (.load m r.toLoadRect hl)) s Q := by
  unfold T
  have hs := hf.split c s
  unfold owns at hs
  refine hs.trans ?_
  have hS : m.view.setOn r.toLoadRect.set ⊆ m.view.set := View.setOn_subset_set _ _
  iintro ⟨⟨%f, %hX, H⟩, Hb⟩
  unfold Prog.lift
  iapply (wp_load (m := m) (r := r.toLoadRect) (hl := hl) (S := m.view.set) (q := fullShare) (f := f) 𝒱 (c : Thread nD τ) none E hS) $$ H
  · iintro H
    rw [wp_ret]
    imodintro
    iexists s
    isplitr
    · ipureintro
      rw [View.readAt_eq_ld, hX]
      exact h
    · have e1 := hf.set_get s
      iapply (show iprop(own (τ := τ) c b (set s (get s))) ⊢ (own (τ := τ) c b s : sProp 𝕄) from by rw [e1])
      iapply Hb
      iexists f
      isplitr
      · ipureintro; exact hX
      iexact H

/-- A store updates the buffer's contents in its rectangle. -/
theorem T.store (hf : Fld nD τ F b m get set) {r : Rect sh} {w : r.shape.Idx → Elt F e} {hx : (m.access r).Stores Finset.univ}
    {hm : (Finset.univ : Finset r.shape.Idx) = Finset.univ ∨ ∀ a, r.stride a = 1} {s : St F} {Q : PUnit → St F → Prop}
    (h : Q ⟨⟩ (set s (upd (get s) r w))) : T defs 𝒱 c E b (Prog.lift (.store m r w Finset.univ hx hm)) s Q := by
  unfold T
  have hs := hf.split c s
  unfold owns at hs
  refine hs.trans ?_
  have hS : (m.access r).setOn Finset.univ ⊆ m.view.set := (View.setOn_subset_set (m.access r) _).trans (View.set_slice_subset _ _)
  iintro ⟨⟨%f, %hX, H⟩, Hb⟩
  unfold Prog.lift
  iapply (wp_store (m := m) (r := r) (w := w) (Mk := Finset.univ) (hx := hx) (hm := hm) (S := m.view.set) (f := f) 𝒱 (c : Thread nD τ) none E hS) $$ H
  · iintro H
    rw [wp_ret]
    imodintro
    iexists _
    isplitr
    · ipureintro
      exact h
    · iapply Hb
      iexists _
      isplitr
      swap
      · iexact H
      · ipureintro
        rw [read_store, hX]

/-- A load followed by a program. -/
theorem T.load_bind (hf : Fld nD τ F b m get set) {r : Rect sh} {hl : m.view.LoadsAt r.toLoadRect} {s : St F}
    {k : (r.shape.Idx → Elt F e) → P nD τ sig Λ F β} {R : β → St F → Prop} (h : T defs 𝒱 c E b (k (View.ld (get s) r)) s R) :
    T defs 𝒱 c E b (Prog.lift (.load m r.toLoadRect hl) >>= k) s R :=
  T.bind (T.load (Q := fun v s' => v = View.ld (get s) r ∧ s' = s) hf ⟨rfl, rfl⟩) fun v s' h' => by
    obtain ⟨rfl, rfl⟩ := h'; exact h

/-- A store followed by a program. -/
theorem T.store_bind (hf : Fld nD τ F b m get set) {r : Rect sh} {w : r.shape.Idx → Elt F e} {hx : (m.access r).Stores Finset.univ}
    {hm : (Finset.univ : Finset r.shape.Idx) = Finset.univ ∨ ∀ a, r.stride a = 1} {s : St F}
    {k : PUnit → P nD τ sig Λ F β} {R : β → St F → Prop} (h : T defs 𝒱 c E b (k ⟨⟩) (set s (upd (get s) r w)) R) :
    T defs 𝒱 c E b (Prog.lift (.store m r w Finset.univ hx hm) >>= k) s R :=
  T.bind (T.store (Q := fun _ s' => s' = set s (upd (get s) r w)) hf rfl) fun v s' h' => by
    subst h'; exact h

/-- Contents read at the same offsets. -/
theorem ld_off {sh : Shape} {e : EltTy} (X : Vec F sh e) {o o' size : Fin sh.rank → Nat} (h : o = o')
    (ho : ∀ a, o a + size a ≤ sh.size a) (ho' : ∀ a, o' a + size a ≤ sh.size a) :
    View.ld X (Rect.unit o size ho) = View.ld X (Rect.unit o' size ho') := by
  subst h; rfl

section Fields

variable (nD τ F) (b : Bufs sig)

/-- The rows are a part of the state. -/
theorem Fld.x : Fld nD τ F b b.x St.x (fun s v => { s with x := v }) where
  split c s := by
    unfold own
    iintro ⟨H0, H1, H2, H3, H4, H5, H6, H7, H8, H9, H10⟩
    isplitl [H0]; · iexact H0
    iintro %v H0
    iframe
  set_get _ := rfl

/-- The weights are a part of the state. -/
theorem Fld.wt : Fld nD τ F b b.wt St.wt (fun s v => { s with wt := v }) where
  split c s := by
    unfold own
    iintro ⟨H0, H1, H2, H3, H4, H5, H6, H7, H8, H9, H10⟩
    isplitl [H1]; · iexact H1
    iintro %v H1
    iframe
  set_get _ := rfl

/-- The weights' scales are a part of the state. -/
theorem Fld.wsb : Fld nD τ F b b.wsb St.wsb (fun s v => { s with wsb := v }) where
  split c s := by
    unfold own
    iintro ⟨H0, H1, H2, H3, H4, H5, H6, H7, H8, H9, H10⟩
    isplitl [H2]; · iexact H2
    iintro %v H2
    iframe
  set_get _ := rfl

/-- The product's rows are a part of the state. -/
theorem Fld.y : Fld nD τ F b b.y St.y (fun s v => { s with y := v }) where
  split c s := by
    unfold own
    iintro ⟨H0, H1, H2, H3, H4, H5, H6, H7, H8, H9, H10⟩
    isplitl [H3]; · iexact H3
    iintro %v H3
    iframe
  set_get _ := rfl

/-- The codes are a part of the state. -/
theorem Fld.codes : Fld nD τ F b b.codes St.codes (fun s v => { s with codes := v }) where
  split c s := by
    unfold own
    iintro ⟨H0, H1, H2, H3, H4, H5, H6, H7, H8, H9, H10⟩
    isplitl [H4]; · iexact H4
    iintro %v H4
    iframe
  set_get _ := rfl

/-- The scales are a part of the state. -/
theorem Fld.scales : Fld nD τ F b b.scales St.scales (fun s v => { s with scales := v }) where
  split c s := by
    unfold own
    iintro ⟨H0, H1, H2, H3, H4, H5, H6, H7, H8, H9, H10⟩
    isplitl [H5]; · iexact H5
    iintro %v H5
    iframe
  set_get _ := rfl

/-- The code tiles to push are a part of the state. -/
theorem Fld.rhs : Fld nD τ F b b.rhs St.rhs (fun s v => { s with rhs := v }) where
  split c s := by
    unfold own
    iintro ⟨H0, H1, H2, H3, H4, H5, H6, H7, H8, H9, H10⟩
    isplitl [H6]; · iexact H6
    iintro %v H6
    iframe
  set_get _ := rfl

/-- The group maxima are a part of the state. -/
theorem Fld.amax : Fld nD τ F b b.amax St.amax (fun s v => { s with amax := v }) where
  split c s := by
    unfold own
    iintro ⟨H0, H1, H2, H3, H4, H5, H6, H7, H8, H9, H10⟩
    isplitl [H7]; · iexact H7
    iintro %v H7
    iframe
  set_get _ := rfl

/-- The reciprocals are a part of the state. -/
theorem Fld.inv : Fld nD τ F b b.inv St.inv (fun s v => { s with inv := v }) where
  split c s := by
    unfold own
    iintro ⟨H0, H1, H2, H3, H4, H5, H6, H7, H8, H9, H10⟩
    isplitl [H8]; · iexact H8
    iintro %v H8
    iframe
  set_get _ := rfl

/-- The combined scales are a part of the state. -/
theorem Fld.srow : Fld nD τ F b b.srow St.srow (fun s v => { s with srow := v }) where
  split c s := by
    unfold own
    iintro ⟨H0, H1, H2, H3, H4, H5, H6, H7, H8, H9, H10⟩
    isplitl [H9]; · iexact H9
    iintro %v H9
    iframe
  set_get _ := rfl

/-- The transposed sums are a part of the state. -/
theorem Fld.out : Fld nD τ F b b.out St.out (fun s v => { s with out := v }) where
  split c s := by
    unfold own
    iintro ⟨H0, H1, H2, H3, H4, H5, H6, H7, H8, H9, H10⟩
    isplitl [H10]; · iexact H10
    iintro %v H10
    iframe
  set_get _ := rfl

end Fields

end Rolled

end

end
-- ==== Proof.Units.lean ====
module

public import proofs.«01_k».proof.Proof.Hoare

/-! The two matrix units through the multiply: which products wait in a unit's accumulators, which
tile it holds, and which blocks of the transposed output are up to date. -/

@[expose] public section

noncomputable section

namespace Rolled

open Idealize.ShloMosaic Idealize.SL.Sem

variable {F : FTy → Type} [FloatOps F]

/-! ### The products -/

/-- Where chunk `i`'s weights are: column block `i % 18` of pair `i / 18`. -/
def wOff (i : Nat) : Fin 3 → Nat := ![i / 18 % 28, 128 * (i % 18), 0]

/-- The offset of a chunk of the weights lies in the buffer. -/
theorem wOff_inb (i : Nat) : ∀ a, wOff i a + S1x128x256.size a ≤ S28x2304x256.size a := by
  have h1 : i / 18 % 28 < 28 := Nat.mod_lt _ (by decide)
  have h2 : i % 18 < 18 := Nat.mod_lt _ (by decide)
  intro a
  match a with
  | 0 => show i / 18 % 28 + 1 ≤ 28; omega
  | 1 => show 128 * (i % 18) + 128 ≤ 2304; omega
  | 2 => show 0 + 256 ≤ 256; omega

/-- The offset of a pair's tile. -/
def tOff (p : Nat) (j : Fin 2) : Fin 4 → Nat := ![p % 28, j.val, 0, 0]

/-- It lies in the buffer. -/
theorem tOff_inb (p : Nat) (j : Fin 2) : ∀ a, tOff p j a + S1x1x256x256.size a ≤ S28x2x256x256.size a := by
  have h1 : p % 28 < 28 := Nat.mod_lt _ (by decide)
  have h2 := j.isLt
  intro a
  match a with
  | 0 => show p % 28 + 1 ≤ 28; omega
  | 1 => show j.val + 1 ≤ 2; omega
  | 2 => show 0 + 256 ≤ 256; omega
  | 3 => show 0 + 256 ≤ 256; omega

/-- The offset of a chunk's combined scales. -/
def sOff (i : Nat) (h j : Fin 2) : Fin 3 → Nat := ![2 * (i / 18 % 28) + h.val, i % 18, 128 * j.val]

/-- It lies in the buffer. -/
theorem sOff_inb (i : Nat) (h j : Fin 2) : ∀ a, sOff i h j a + S1x1x128.size a ≤ S56x18x256.size a := by
  have h1 : i / 18 % 28 < 28 := Nat.mod_lt _ (by decide)
  have h2 : i % 18 < 18 := Nat.mod_lt _ (by decide)
  have h3 := h.isLt
  have h4 := j.isLt
  intro a
  match a with
  | 0 => show 2 * (i / 18 % 28) + h.val + 1 ≤ 56; omega
  | 1 => show i % 18 + 1 ≤ 18; omega
  | 2 => show 128 * j.val + 128 ≤ 256; omega

/-- Chunk `i`'s weights. -/
def wV (wt : Vec F S28x2304x256 .fp8e4m3) (i : Nat) : FVec F S128x256 .bf16 :=
  extf .bf16 (shapeCast (s := S1x128x256) S128x256 (View.ld wt (Rect.unit (s := S28x2304x256) (wOff i) S1x128x256.size (wOff_inb i))) (by decide)) (by decide)

/-- Pair `p`'s right-hand tile for half `j` of the tokens. -/
def tile (rhs : Vec F S28x2x256x256 .fp8e4m3) (j : Fin 2) (p : Nat) : FVec F S256x256 .bf16 :=
  extf .bf16 (shapeCast (s := S1x1x256x256) S256x256 (View.ld rhs (Rect.unit (s := S28x2x256x256) (tOff p j) S1x1x256x256.size (tOff_inb p j))) (by decide)) (by decide)

/-- Their product. -/
def prod (wt : Vec F S28x2304x256 .fp8e4m3) (rhs : Vec F S28x2x256x256 .fp8e4m3) (j : Fin 2) (i : Nat) : FVec F S128x256 .f32 :=
  FloatOps.mxuPass (DotDims.transposedRhs 128 256 256) (wV wt i) (tile rhs j (i / 18))

/-- What chunk `i` adds to its block of the output. -/
def chunk (wt : Vec F S28x2304x256 .fp8e4m3) (rhs : Vec F S28x2x256x256 .fp8e4m3) (srow : Vec F S56x18x256 .f32) (j : Fin 2) (i : Nat) :
    FVec F S128x128 .f32 :=
  updOf (prod wt rhs j i) (View.ld srow (Rect.unit (s := S56x18x256) (sOff i 0 j) S1x1x128.size (sOff_inb i 0 j)))
    (View.ld srow (Rect.unit (s := S56x18x256) (sOff i 1 j) S1x1x128.size (sOff_inb i 1 j)))

/-- A sum from the left, starting from its first term. -/
def sumTo (u : Nat → FVec F S128x128 .f32) : Nat → FVec F S128x128 .f32
  | 0 => u 0
  | p + 1 => addf (sumTo u p) (u (p + 1))

/-- Block `(c, j)` of the output after pairs `0`, …, `p`. -/
def accP (u : Nat → FVec F S128x128 .f32) (c p : Nat) : FVec F S128x128 .f32 := sumTo (fun p => u (18 * p + c)) p

/-! ### The accumulators -/

/-- Unit `q` holds the products `d`, …, `n - 1`, each in its slot, and no other row is live. -/
structure Pend (P : Nat → FVec F S128x256 .f32) (q : Fin 2) (d n : Nat) (m : Mxu F) : Prop where
  read : ∀ i, d ≤ i → i < n → m.read q (32 * (i % 8)) (fits_slot i) = P i
  live : ∀ R : Fin 1024, m.live q R = true → ∃ i, d ≤ i ∧ i < n ∧ 128 * (i % 8) ≤ R.val ∧ R.val < 128 * (i % 8) + 128

variable {P : Nat → FVec F S128x256 .f32} {q : Fin 2} {d n : Nat} {m : Mxu F}

/-- What is owed depends on the accumulators alone. -/
theorem Pend.congr {m' : Mxu F} (h : Pend P q d n m) (ha : m'.acc = m.acc) (hl : m'.live = m.live) : Pend P q d n m' where
  read i h1 h2 := by rw [← h.read i h1 h2]; unfold Mxu.read; rw [ha]
  live R hR := h.live R (by rw [← hl]; exact hR)

/-- A product is one more owed. -/
theorem Pend.accBy (h : Pend P q d n m) (hd : d ≤ n) (hn : n < d + 8) (t : Mxu.Staged F) (w : FVec F S128x256 .bf16) (hP : t.pass w = P n)
    {A : Nat} (hA : A = 32 * (n % 8)) (hf : Mxu.Fits A 128) : Pend P q d (n + 1) (m.accBy q t A w hf) where
  read i h1 h2 := by
    subst hA
    by_cases hi : i = n
    · subst hi
      rw [← hP]
      apply Mxu.read_accBy_of_not_live
      intro r
      by_contra hc
      obtain ⟨i', h3, h4, h5, h6⟩ := h.live _ (by simpa using hc)
      have := r.isLt
      simp only [Mxu.row] at h5 h6
      omega
    · rw [← h.read i h1 (by omega)]
      apply Mxu.read_accBy_ne
      right; omega
  live R hR := by
    subst hA
    rw [Mxu.live_accBy] at hR
    split at hR
    · rename_i hc
      exact ⟨n, by omega, by omega, by omega, by omega⟩
    · obtain ⟨i, h1, h2, h3⟩ := h.live R hR
      exact ⟨i, h1, by omega, h3⟩

/-- A product on the other unit changes nothing owed. -/
theorem Pend.accBy_ne (h : Pend P q d n m) {q' : Fin 2} (hq : q ≠ q') (t : Mxu.Staged F) (w : FVec F S128x256 .bf16)
    {A : Nat} (hf : Mxu.Fits A 128) : Pend P q d n (m.accBy q' t A w hf) where
  read i h1 h2 := by rw [← h.read i h1 h2]; exact Mxu.read_accBy_ne _ _ _ _ _ _ _ _ _ (.inl hq)
  live R hR := by
    rw [Mxu.live_accBy, if_neg (fun hc => hq hc.1)] at hR
    exact h.live R hR

/-- A pop is one fewer owed. -/
theorem Pend.pop (h : Pend P q d n m) (hd : d < n) (hn : n ≤ d + 8) {A : Nat} (hA : A = 32 * (d % 8)) (hf : Mxu.Fits A 128) :
    Pend P q (d + 1) n (m.pop q A 128 hf) where
  read i h1 h2 := by
    subst hA
    rw [← h.read i (by omega) h2]
    apply Mxu.read_pop_ne
    right; omega
  live R hR := by
    subst hA
    rw [Mxu.live_pop] at hR
    split at hR
    · cases hR
    · rename_i hc
      obtain ⟨i, h1, h2, h3, h4⟩ := h.live R hR
      refine ⟨i, ?_, h2, h3, h4⟩
      by_contra h5
      obtain rfl : i = d := by omega
      exact hc ⟨rfl, by omega, by omega⟩

/-- A pop on the other unit changes nothing owed. -/
theorem Pend.pop_ne (h : Pend P q d n m) {q' : Fin 2} (hq : q ≠ q') {A : Nat} (hf : Mxu.Fits A 128) : Pend P q d n (m.pop q' A 128 hf) where
  read i h1 h2 := by rw [← h.read i h1 h2]; exact Mxu.read_pop_ne _ _ _ _ _ _ _ (.inl hq)
  live R hR := by
    rw [Mxu.live_pop, if_neg (fun hc => hq hc.1)] at hR
    exact h.live R hR

/-! ### The tiles -/

/-- Register `p % 2`. -/
def rg (p : Nat) : Fin 2 := ⟨p % 2, Nat.mod_lt _ (by decide)⟩

/-- Unit `q` has loaded tiles `0`, …, `L - 1`, the last of them in its array; if `e` tile `L` waits in its register. -/
structure Hold (S : Nat → FVec F S256x256 .bf16) (q : Fin 2) (L : Nat) (e : Bool) (m : Mxu F) : Prop where
  gmr : 1 ≤ L → m.gmr q = some ⟨.bf16, true, S (L - 1)⟩
  cur : m.reg q (rg L) = cond e (some ⟨.bf16, true, S L⟩) none
  oth : m.reg q (rg (L + 1)) = none

variable {S : Nat → FVec F S256x256 .bf16} {L : Nat} {e : Bool}

/-- What is loaded and staged depends on the registers alone. -/
theorem Hold.congr {m' : Mxu F} (h : Hold S q L e m) (hg : m'.gmr q = m.gmr q) (hr : ∀ r, m'.reg q r = m.reg q r) : Hold S q L e m' where
  gmr h1 := by rw [hg, h.gmr h1]
  cur := by rw [hr, h.cur]
  oth := by rw [hr, h.oth]

/-- Two pairs in a row use different registers. -/
theorem rg_ne (p : Nat) : rg (p + 1) ≠ rg p := by
  intro h
  have := congrArg Fin.val h
  simp only [rg] at this
  omega

/-- The register repeats every second pair. -/
theorem rg_two (p : Nat) : rg (p + 1 + 1) = rg p := by
  apply Fin.ext; simp only [rg]; omega

/-- The staged tile is the next pair's. -/
theorem Hold.staged (h : Hold S q L true m) : m.staged q (rg L) = ⟨.bf16, true, S L⟩ := by
  rw [Mxu.staged_eq, h.cur]; rfl

/-- Loading the staged tile passes to the next pair. -/
theorem Hold.accLhs (h : Hold S q L true m) {A : Nat} (w : FVec F S128x256 .bf16) (hf : Mxu.Fits A 128) :
    Hold S q (L + 1) false (m.accLhs q (rg L) A w hf) where
  gmr _ := by rw [Mxu.gmr_accLhs, h.staged]; rfl
  cur := by rw [Mxu.reg_accLhs_ne _ _ _ _ _ _ _ _ (fun hc => rg_ne L hc.2), h.oth]; rfl
  oth := by rw [rg_two, Mxu.reg_accLhs]

/-- Loading on the other unit changes nothing here. -/
theorem Hold.accLhs_ne (h : Hold S q L e m) {q' r : Fin 2} (hq : q ≠ q') {A : Nat} (w : FVec F S128x256 .bf16) (hf : Mxu.Fits A 128) :
    Hold S q L e (m.accLhs q' r A w hf) :=
  h.congr (Mxu.gmr_accLhs_ne _ _ _ _ _ _ _ hq) fun _ => Mxu.reg_accLhs_ne _ _ _ _ _ _ _ _ fun hc => hq hc.1

/-- A push stages the next pair's tile. -/
theorem Hold.pushed (h : Hold S q L false m) : Hold S q L true (m.pushed q (rg L) true (S L)) where
  gmr h1 := by rw [Mxu.gmr_pushed, h.gmr h1]
  cur := by rw [Mxu.reg_pushed_of_none _ _ _ _ _ (by rw [h.cur]; rfl)]; rfl
  oth := by rw [Mxu.reg_pushed_ne _ _ _ _ _ _ _ (fun hc => rg_ne L hc.2), h.oth]

/-- A push on the other unit changes nothing here. -/
theorem Hold.pushed_ne (h : Hold S q L e m) {q' r : Fin 2} (hq : q ≠ q') (v : FVec F S256x256 .bf16) :
    Hold S q L e (m.pushed q' r true v) :=
  h.congr (by rw [Mxu.gmr_pushed]) fun _ => Mxu.reg_pushed_ne _ _ _ _ _ _ _ fun hc => hq hc.1

/-! ### The output's blocks -/

/-- Unit `q`'s blocks of the output after the first `d` chunks: each holds the sum of its chunks so far. -/
def Done (u : Nat → FVec F S128x128 .f32) (q : Fin 2) (d : Nat) (O : Vec F S2304x256 .f32) : Prop :=
  ∀ (p : Nat) (c : Fin 18), 18 * p + c.val < d → d ≤ 18 * (p + 1) + c.val → View.ld O (outRect c q) = accP u c.val p

/-- Two chunks of the sums are apart. -/
theorem outRect_miss {c c' : Fin 18} {q q' : Fin 2} (h : c ≠ c' ∨ q ≠ q') (k : (outRect c q).shape.Idx) :
    (outRect c q).emb k ∉ (outRect c' q').set := by
  intro hm
  obtain ⟨k', hk⟩ := (outRect c' q').exists_idx_of_mem hm
  have h0 := congrArg Fin.val (congrFun hk 0)
  have h1 := congrArg Fin.val (congrFun hk 1)
  have a0 : (k 0).val < 128 := (k 0).isLt
  have a1 : (k 1).val < 128 := (k 1).isLt
  have b0 : (k' 0).val < 128 := (k' 0).isLt
  have b1 : (k' 1).val < 128 := (k' 1).isLt
  change 128 * c'.val + 1 * (k' 0).val = 128 * c.val + 1 * (k 0).val at h0
  change 128 * q'.val + 1 * (k' 1).val = 128 * q.val + 1 * (k 1).val at h1
  rcases h with h | h
  · exact h (Fin.ext (by omega))
  · exact h (Fin.ext (by omega))

variable {u : Nat → FVec F S128x128 .f32} {O : Vec F S2304x256 .f32}

/-- One more chunk is done. -/
theorem Done.put (h : Done u q d O) (p : Nat) (c : Fin 18) (hd : d = 18 * p + c.val) {v : FVec F S128x128 .f32} (hv : v = accP u c.val p) :
    Done u q (d + 1) (upd O (outRect c q) v) := by
  intro p' c' h1 h2
  by_cases hc : c' = c
  · subst hc
    obtain rfl : p' = p := by omega
    rw [ld_upd, hv]
  · rw [ld_upd_ne _ _ _ _ (outRect_miss (.inl hc))]
    have : c'.val ≠ c.val := fun e => hc (Fin.ext e)
    exact h p' c' (by omega) (by omega)

/-- A chunk of the other unit changes nothing here. -/
theorem Done.put_ne (h : Done u q d O) {q' : Fin 2} (hq : q ≠ q') (c : Fin 18) (v : FVec F S128x128 .f32) :
    Done u q d (upd O (outRect c q') v) := by
  intro p' c' h1 h2
  rw [ld_upd_ne _ _ _ _ (outRect_miss (.inr hq))]
  exact h p' c' h1 h2

end Rolled

end

end
-- ==== Proof.Multiply.lean ====
module

public import proofs.«01_k».proof.Proof.Units
public import Idealize.ShloMosaic.Lib.Pointwise.Reshape

/-! The multiplying part of the body: step by step, from the right-hand tiles, the weights and the
combined scales in their buffers to the transposed output. -/

@[expose] public section

noncomputable section

namespace Rolled

open Idealize.ShloMosaic Idealize.ShloMosaic.TcCoe
open Idealize.SL Idealize.SL.Sem

variable {nD : Nat} {τ : Topo} {sig : RefSig} {Λ : Labels} {F : FTy → Type} [FloatOps F]
variable {defs : Defs nD τ sig (Elt F) Λ} {𝒱 : Variants} {c : Dev nD} {E : Set ℕ} {b : Bufs sig}

/-- No number is below itself. -/
theorem blt_self (a : Nat) : Nat.blt a a = false := by rw [← Bool.not_eq_true, Nat.blt_eq]; omega
/-- No number is below zero. -/
theorem blt_zero (a : Nat) : Nat.blt a 0 = false := by rw [← Bool.not_eq_true, Nat.blt_eq]; omega
/-- A number is below the next. -/
theorem blt_succ (a : Nat) : Nat.blt a (a + 1) = true := by rw [Nat.blt_eq]; omega
/-- Both units are below two. -/
theorem blt_two (q : Fin 2) : Nat.blt q.val 2 = true := by rw [Nat.blt_eq]; exact q.isLt
/-- Passing from `j` to the next unit changes the answer for `j` alone. -/
theorem blt_ne {q j : Fin 2} (h : q ≠ j) : Nat.blt q.val (j.val + 1) = Nat.blt q.val j.val := by
  have : q.val ≠ j.val := fun e => h (Fin.ext e)
  rw [Bool.eq_iff_iff, Nat.blt_eq, Nat.blt_eq]; omega

/-! ### One unit -/

/-- Unit `q`: its accumulators, its tiles and its half of the output. -/
structure Half (s₀ : St F) (q : Fin 2) (d n L : Nat) (e : Bool) (m : Mxu F) (O : Vec F S2304x256 .f32) : Prop where
  pend : Pend (prod s₀.wt s₀.rhs q) q d n m
  hold : Hold (tile s₀.rhs q) q L e m
  done : Done (chunk s₀.wt s₀.rhs s₀.srow q) q d O

variable {s₀ : St F} {q : Fin 2} {d n L : Nat} {e : Bool} {m : Mxu F} {O : Vec F S2304x256 .f32}

/-- A product that loads the staged tile: one more product is owed, and the next tile may be staged. -/
theorem Half.accLhs (h : Half s₀ q d n L true m O) (hd : d ≤ n) (hn : n < d + 8) (hL : L = n / 18) {A : Nat} (hA : A = 32 * (n % 8))
    (hf : Mxu.Fits A 128) {r : Fin 2} (hr : r = rg L) : Half s₀ q d (n + 1) (L + 1) false (m.accLhs q r A (wV s₀.wt n) hf) O where
  pend := by
    have hs := h.hold.staged
    subst hr
    refine Pend.congr (h.pend.accBy hd hn (m.staged q (rg L)) (wV s₀.wt n) ?_ hA hf) rfl rfl
    rw [hs, Mxu.Staged.pass_true, hL]; rfl
  hold := by subst hr; exact h.hold.accLhs _ hf
  done := h.done

/-- That product leaves the other unit alone. -/
theorem Half.accLhs_ne (h : Half s₀ q d n L e m O) {q' r : Fin 2} (hq : q ≠ q') {A : Nat} (w : FVec F S128x256 .bf16) (hf : Mxu.Fits A 128) :
    Half s₀ q d n L e (m.accLhs q' r A w hf) O where
  pend := Pend.congr (h.pend.accBy_ne hq (m.staged q' r) w hf) rfl rfl
  hold := h.hold.accLhs_ne hq w hf
  done := h.done

/-- A product by the tile already loaded: one more product is owed. -/
theorem Half.accBy (h : Half s₀ q d n L e m O) (hd : d ≤ n) (hn : n < d + 8) (hL : L - 1 = n / 18) {A : Nat} (hA : A = 32 * (n % 8))
    (hf : Mxu.Fits A 128) : Half s₀ q d (n + 1) L e (m.accBy q ⟨.bf16, true, tile s₀.rhs q (L - 1)⟩ A (wV s₀.wt n) hf) O where
  pend := h.pend.accBy hd hn _ _ (by rw [Mxu.Staged.pass_true, hL]; rfl) hA hf
  hold := h.hold.congr rfl fun _ => rfl
  done := h.done

/-- It leaves the other unit alone. -/
theorem Half.accBy_ne (h : Half s₀ q d n L e m O) {q' : Fin 2} (hq : q ≠ q') {A : Nat} (t : Mxu.Staged F) (w : FVec F S128x256 .bf16)
    (hf : Mxu.Fits A 128) : Half s₀ q d n L e (m.accBy q' t A w hf) O where
  pend := h.pend.accBy_ne hq t w hf
  hold := h.hold.congr rfl fun _ => rfl
  done := h.done

/-- A push stages the next tile. -/
theorem Half.pushed (h : Half s₀ q d n L false m O) {r : Fin 2} (hr : r = rg L) : Half s₀ q d n L true (m.pushed q r true (tile s₀.rhs q L)) O where
  pend := Pend.congr h.pend (Mxu.acc_pushed _ _ _ _ _) (Mxu.live_pushed _ _ _ _ _)
  hold := by subst hr; exact h.hold.pushed
  done := h.done

/-- It leaves the other unit alone. -/
theorem Half.pushed_ne (h : Half s₀ q d n L e m O) {q' r : Fin 2} (hq : q ≠ q') (v : FVec F S256x256 .bf16) :
    Half s₀ q d n L e (m.pushed q' r true v) O where
  pend := Pend.congr h.pend (Mxu.acc_pushed _ _ _ _ _) (Mxu.live_pushed _ _ _ _ _)
  hold := h.hold.pushed_ne hq v
  done := h.done

/-- A pop and the update of its chunk: one product fewer is owed, one more is in the sums. -/
theorem Half.pop (h : Half s₀ q d n L e m O) (hd : d < n) (hn : n ≤ d + 8) {A : Nat} (hA : A = 32 * (d % 8)) (hf : Mxu.Fits A 128)
    {c : Fin 18} (hc : c.val = d % 18) {v : FVec F S128x128 .f32} (hv : v = accP (chunk s₀.wt s₀.rhs s₀.srow q) c.val (d / 18)) :
    Half s₀ q (d + 1) n L e (m.pop q A 128 hf) (upd O (outRect c q) v) where
  pend := h.pend.pop hd hn hA hf
  hold := h.hold.congr rfl fun _ => rfl
  done := h.done.put (d / 18) c (by omega) hv

/-- They leave the other unit alone. -/
theorem Half.pop_ne (h : Half s₀ q d n L e m O) {q' : Fin 2} (hq : q ≠ q') {A : Nat} (hf : Mxu.Fits A 128)
    (c : Fin 18) (v : FVec F S128x128 .f32) :
    Half s₀ q d n L e (m.pop q' A 128 hf) (upd O (outRect c q') v) where
  pend := h.pend.pop_ne hq hf
  hold := h.hold.congr rfl fun _ => rfl
  done := h.done.put_ne hq c v

/-! ### Both units -/

/-- Both units, in a state that differs from `s₀` in the transposed output alone. -/
def Both (s₀ : St F) (d : Fin 2 → Nat) (n L : Nat) (e : Fin 2 → Bool) (m : Mxu F) (s : St F) : Prop :=
  ∃ O, s = { s₀ with out := O } ∧ ∀ q, Half s₀ q (d q) n L (e q) m O

/-- The invariant of both units depends on its counts by value. -/
theorem Both.congr {s : St F} {d d' : Fin 2 → Nat} {n n' L L' : Nat} {e e' : Fin 2 → Bool} (h : Both s₀ d n L e m s)
    (hd : ∀ q, d q = d' q) (hn : n = n') (hL : L = L') (he : ∀ q, e q = e' q) : Both s₀ d' n' L' e' m s := by
  obtain rfl : d = d' := funext hd
  obtain rfl : e = e' := funext he
  subst hn hL; exact h

/-- The program that multiplies by the loaded tile does so. -/
theorem T.accLoaded {s : St F} {t : Mxu.Staged F} (ht : m.gmr q = some t) {A : Nat} {w : FVec F S128x256 .bf16} {hf : Mxu.Fits A 128}
    {Q : Mxu F → St F → Prop} (h : Q (m.accBy q t A w hf) s) :
    T defs 𝒱 c E b (m.accLhsLoaded q A w hf) s Q := by
  obtain ⟨hs, rfl⟩ := Option.eq_some_iff_get_eq.mp ht
  exact T.assume hs (T.ret h)

/-- The push of one unit. -/
theorem push_ok {s : St F} {d : Fin 2 → Nat} {j : Fin 2} {o : Fin 4 → Nat} (ho' : o = tOff L j)
    (ho : ∀ a, o a + S1x1x256x256.size a ≤ S28x2x256x256.size a) {r : Fin 2} (hr : r = rg L)
    (h : Both s₀ d n L (fun q => Nat.blt q.val j.val) m s) :
    T defs 𝒱 c E b (push b o ho j r m) s (Both s₀ d n L (fun q => Nat.blt q.val (j.val + 1))) := by
  subst ho' hr
  obtain ⟨O, rfl, h⟩ := h
  refine T.load_bind (Fld.rhs nD τ F b) ?_
  refine T.assume (Mxu.pushOk_of_none _ _ _ _ ?_) (T.ret ⟨O, rfl, ?_⟩)
  · have hc := (h j).hold.cur
    dsimp only at hc
    rw [hc, blt_self]; rfl
  · intro q
    by_cases hq : q = j
    · subst hq
      have hj : Half s₀ q (d q) n L false m O := by
        have := h q; dsimp only at this; rwa [blt_self] at this
      show Half s₀ q (d q) n L (Nat.blt q.val (q.val + 1)) _ O
      rw [blt_succ]
      exact hj.pushed rfl
    · have hj := (h q).pushed_ne (r := rg L) hq (tile s₀.rhs j L)
      show Half s₀ q (d q) n L (Nat.blt q.val (j.val + 1)) _ O
      rw [blt_ne hq]
      exact hj

/-- The update of one chunk of the sums, assigned or added. -/
theorem put_ok {s : St F} {asg : Bool} {cc : Fin 18} {j : Fin 2} {v : FVec F S128x128 .f32} :
    T defs 𝒱 c E b (putOut b asg cc j v) s
      (fun _ s' => s' = { s with out := upd s.out (outRect cc j) (cond asg v (addf (View.ld s.out (outRect cc j) : FVec F S128x128 .f32) v)) }) := by
  cases asg
  · refine T.load_bind (Fld.out nD τ F b) ?_
    refine T.load_bind (Fld.out nD τ F b) ?_
    refine T.store (Fld.out nD τ F b) ?_
    rw [shapeCast_id]
    rfl
  · refine T.load_bind (Fld.out nD τ F b) ?_
    refine T.store (Fld.out nD τ F b) ?_
    rw [shapeCast_id]
    rfl

/-- The drain of one unit. -/
theorem drainJ_ok {s : St F} {asg : Bool} {S : Fin 2 → Fin 2 → Fin 3 → Nat} (hS : ∀ h j a, S h j a + S1x1x128.size a ≤ S56x18x256.size a)
    {cc : Fin 18} {k : Nat} {j : Fin 2} {e : Fin 2 → Bool} (hS' : ∀ h, S h j = sOff d h j) (hcc : cc.val = d % 18)
    (hk : k % 8 = d % 8) (ha : asg = Nat.blt d 18) (hd : d < n) (hn : n ≤ d + 8)
    (h : Both s₀ (fun q => d + cond (Nat.blt q.val j.val) 1 0) n L e m s) :
    T defs 𝒱 c E b (drainJ b asg S hS cc k j m) s (Both s₀ (fun q => d + cond (Nat.blt q.val (j.val + 1)) 1 0) n L e) := by
  obtain ⟨O, rfl, h⟩ := h
  refine T.load_bind (Fld.srow nD τ F b) ?_
  refine T.load_bind (Fld.srow nD τ F b) ?_
  refine T.bind put_ok ?_
  rintro - s' rfl
  refine T.ret ⟨_, rfl, ?_⟩
  have hj : Half s₀ j d n L (e j) m O := by
    have := h j; dsimp only at this; rwa [blt_self] at this
  have hread : m.read j (32 * (k % 8)) (fits_slot k) = prod s₀.wt s₀.rhs j d := by
    rw [← hj.pend.read d (le_refl d) hd]
    unfold Mxu.read
    funext i
    have : Mxu.row (fits_slot k) (i 0) = Mxu.row (fits_slot d) (i 0) := by
      apply Fin.ext; simp only [Mxu.row, hk]
    rw [this]
  have hu : updOf (m.read j (32 * (k % 8)) (fits_slot k))
      (View.ld s₀.srow (Rect.unit (s := S56x18x256) (S 0 j) S1x1x128.size (hS 0 j)))
      (View.ld s₀.srow (Rect.unit (s := S56x18x256) (S 1 j) S1x1x128.size (hS 1 j)))
      = chunk s₀.wt s₀.rhs s₀.srow j d := by
    rw [hread, ld_off s₀.srow (hS' 0) (hS 0 j) (sOff_inb d 0 j), ld_off s₀.srow (hS' 1) (hS 1 j) (sOff_inb d 1 j)]; rfl
  intro q
  by_cases hq : q = j
  · subst hq
    show Half s₀ q (d + cond (Nat.blt q.val (q.val + 1)) 1 0) n L (e q) _ _
    rw [blt_succ]
    refine hj.pop hd hn (by rw [hk]) (fits_slot k) hcc ?_
    dsimp only
    rw [hu, ha]
    by_cases hlt : d < 18
    · rw [show Nat.blt d 18 = true by rw [Nat.blt_eq]; exact hlt, show d / 18 = 0 by omega]
      show chunk _ _ _ q d = chunk _ _ _ q (18 * 0 + cc.val)
      rw [show 18 * 0 + cc.val = d by omega]
    · rw [show Nat.blt d 18 = false by rw [← Bool.not_eq_true, Nat.blt_eq]; exact hlt]
      obtain ⟨p, hp⟩ : ∃ p, d / 18 = p + 1 := ⟨d / 18 - 1, by omega⟩
      rw [hj.done p cc (by omega) (by omega), hp]
      show addf _ _ = addf (accP _ _ _) (chunk _ _ _ q (18 * (p + 1) + cc.val))
      rw [show 18 * (p + 1) + cc.val = d by omega]
  · have hj := (h q).pop_ne (q' := j) hq (fits_slot k) cc
    show Half s₀ q (d + cond (Nat.blt q.val (j.val + 1)) 1 0) n L (e q) _ _
    rw [blt_ne hq]
    exact hj _

/-- The drain of both units. -/
theorem drain_ok {s : St F} {asg : Bool} {S : Fin 2 → Fin 2 → Fin 3 → Nat} (hS : ∀ h j a, S h j a + S1x1x128.size a ≤ S56x18x256.size a)
    {cc : Fin 18} {k : Nat} {e : Fin 2 → Bool} (hS' : ∀ h j, S h j = sOff d h j) (hcc : cc.val = d % 18)
    (hk : k % 8 = d % 8) (ha : asg = Nat.blt d 18) (hd : d < n) (hn : n ≤ d + 8)
    (h : Both s₀ (fun _ => d) n L e m s) :
    T defs 𝒱 c E b (drain b asg S hS cc k m) s (Both s₀ (fun _ => d + 1) n L e) := by
  unfold drain
  refine T.mono (T.loop (N := 2) (fun j m s => Both s₀ (fun q => d + cond (Nat.blt q.val j) 1 0) n L e m s) ?_ ?_) ?_
  · exact h.congr (fun q => by rw [blt_zero]; rfl) rfl rfl fun _ => rfl
  · intro j m s h
    exact drainJ_ok hS (fun h => hS' h j) hcc hk ha hd hn h
  · intro m s h
    exact h.congr (fun q => by rw [blt_two]; rfl) rfl rfl fun _ => rfl

/-! ### A step -/

/-- The invariant between steps: `n` chunks accumulated, all but the last seven of them drained. -/
def Inv (s₀ : St F) (n : Nat) (m : Mxu F) (s : St F) : Prop :=
  Both s₀ (fun _ => n - 7) n ((n + 17) / 18) (fun _ => Nat.blt ((n + 17) / 18) 28) m s

/-- A trip's offsets name the pairs from `p₀` on. -/
structure Offs.Ok (o : Offs) (p₀ : Nat) : Prop where
  W : ∀ (u : Fin 4) (c : Fin 18), o.W u c = ![p₀ + u.val, 128 * c.val, 0]
  R : ∀ (u : Fin 4) (j : Fin 2), p₀ + u.val + 1 < 28 → o.R u j = ![p₀ + u.val + 1, j.val, 0, 0]
  S : ∀ (d : Fin 5) (c : Fin 18) (h j : Fin 2), 1 ≤ p₀ + d.val → o.S d c h j = ![2 * (p₀ + d.val - 1) + h.val, c.val, 128 * j.val]

/-- The products of one chunk on both units. -/
theorem acc_ok {s : St F} {k : Nat} {w : FVec F S128x256 .bf16} {p₀ : Nat} (hp : p₀ % 4 = 0) (hp' : p₀ ≤ 24) (hk : k < 72)
    (hn : n = 18 * p₀ + k) (hw : w = wV s₀.wt n) {r : Fin 2} (hr : r.val = k / 18 % 2) (h : Inv s₀ n m s) :
    T defs 𝒱 c E b (cond (Nat.beq (k % 18) 0) (accStaged k r w m) (accLoaded k w m)) s
      (Both s₀ (fun _ => n - 7) (n + 1) (n / 18 + 1) (fun _ => cond (Nat.beq (k % 18) 0) false (Nat.blt (n / 18 + 1) 28))) := by
  obtain ⟨O, rfl, h⟩ := h
  subst hw
  have h8 : k % 8 = n % 8 := by omega
  by_cases hc : k % 18 = 0
  · have hL : (n + 17) / 18 = n / 18 := by omega
    have he : Nat.blt ((n + 17) / 18) 28 = true := by rw [Nat.blt_eq]; omega
    rw [show Nat.beq (k % 18) 0 = true by rw [Nat.beq_eq]; exact hc]
    rw [hL] at he
    simp only [hL, he] at h
    have hr' : r = rg (n / 18) := Fin.ext (by rw [hr]; simp only [rg]; omega)
    refine T.ret ⟨O, rfl, fun q => ?_⟩
    match q with
    | 0 => exact ((h 0).accLhs (by omega) (by omega) rfl (by rw [h8]) _ hr').accLhs_ne (by decide) _ _
    | 1 => exact ((h 1).accLhs_ne (by decide) _ _).accLhs (by omega) (by omega) rfl (by rw [h8]) _ hr'
  · have hL : (n + 17) / 18 = n / 18 + 1 := by omega
    rw [show Nat.beq (k % 18) 0 = false by rw [← Bool.not_eq_true, Nat.beq_eq]; exact hc]
    simp only [hL] at h
    refine T.bind (T.accLoaded (Q := fun m' s' => m' = m.accBy 0 ⟨.bf16, true, tile s₀.rhs 0 (n / 18 + 1 - 1)⟩ (32 * (k % 8)) (wV s₀.wt n) (fits_slot k)
      ∧ s' = { s₀ with out := O }) ((h 0).hold.gmr (by omega)) ⟨rfl, rfl⟩) ?_
    rintro m' s' ⟨rfl, rfl⟩
    have h1 : (m.accBy 0 ⟨.bf16, true, tile s₀.rhs 0 (n / 18 + 1 - 1)⟩ (32 * (k % 8)) (wV s₀.wt n) (fits_slot k)).gmr 1
        = some ⟨.bf16, true, tile s₀.rhs 1 (n / 18 + 1 - 1)⟩ := (h 1).hold.gmr (by omega)
    refine T.accLoaded h1 ⟨O, rfl, fun q => ?_⟩
    match q with
    | 0 => exact ((h 0).accBy (by omega) (by omega) (by omega) (by rw [h8]) _).accBy_ne (by decide) _ _ _
    | 1 => exact ((h 1).accBy_ne (by decide) _ _ _).accBy (by omega) (by omega) (by omega) (by rw [h8]) _

/-- One chunk's step keeps the invariant. -/
theorem step_ok {s : St F} {o : Offs} {p₀ : Nat} (hp : p₀ % 4 = 0) (hp' : p₀ ≤ 24) (ho : o.Ok p₀) {first last : Bool}
    (hf : first = Nat.beq p₀ 0) (hl : last = Nat.beq p₀ 24) (k : Fin 72) (h : Inv s₀ (18 * p₀ + k.val) m s) :
    T defs 𝒱 c E b (step b first last o k m) s (Inv s₀ (18 * p₀ + (k.val + 1))) := by
  have hk := k.isLt
  obtain ⟨n, hn⟩ : ∃ n, n = 18 * p₀ + k.val := ⟨_, rfl⟩
  rw [← hn] at h
  rw [show 18 * p₀ + (k.val + 1) = n + 1 by omega]
  have hx : ∃ O, s = { s₀ with out := O } := ⟨_, h.choose_spec.1⟩
  unfold step
  refine T.load_bind (Fld.wt nD τ F b) ?_
  refine T.bind (acc_ok hp hp' hk hn ?_ rfl h) ?_
  · obtain ⟨O, rfl⟩ := hx
    rw [ld_off _ (o' := wOff n) _ _ (wOff_inb n)]
    · rfl
    · rw [ho.W]
      unfold wOff
      congr 1
      · dsimp only; omega
      · congr 1
        dsimp only; omega
  intro m s h
  refine T.bind (Q := Both s₀ (fun _ => n - 7) (n + 1) (n / 18 + 1) (fun _ => Nat.blt (n / 18 + 1) 28)) ?_ ?_
  · by_cases hc : k.val % 18 = 0
    · rw [show Nat.beq (k.val % 18) 0 = true by rw [Nat.beq_eq]; exact hc] at h ⊢
      by_cases hlast : n / 18 = 27
      · rw [show (true && !(last && Nat.beq (k.val / 18) 3)) = false by
          rw [hl, show Nat.beq p₀ 24 = true by rw [Nat.beq_eq]; omega, show Nat.beq (k.val / 18) 3 = true by rw [Nat.beq_eq]; omega]; rfl]
        refine T.ret (h.congr (fun _ => rfl) rfl rfl fun _ => ?_)
        rw [hlast]; rfl
      · rw [show (true && !(last && Nat.beq (k.val / 18) 3)) = true by
          rw [hl, show (Nat.beq p₀ 24 && Nat.beq (k.val / 18) 3) = false by
            rw [← Bool.not_eq_true, Bool.and_eq_true, Nat.beq_eq, Nat.beq_eq]; omega]; rfl]
        rw [cond_true]
        refine T.mono (T.loop (N := 2) (fun j m s => Both s₀ (fun _ => n - 7) (n + 1) (n / 18 + 1) (fun q => Nat.blt q.val j) m s) ?_ ?_) ?_
        · exact h.congr (fun _ => rfl) rfl rfl fun q => by rw [blt_zero]; rfl
        · intro j m s h
          refine push_ok ?_ _ ?_ h
          · rw [ho.R _ _ (by dsimp only; omega)]
            unfold tOff
            congr 1
            dsimp only; omega
          · apply Fin.ext; simp only [rg]; omega
        · intro m s h
          refine h.congr (fun _ => rfl) rfl rfl fun q => ?_
          rw [blt_two, show Nat.blt (n / 18 + 1) 28 = true by rw [Nat.blt_eq]; omega]
    · rw [show Nat.beq (k.val % 18) 0 = false by rw [← Bool.not_eq_true, Nat.beq_eq]; exact hc] at h ⊢
      exact T.ret h
  clear h
  intro m s h
  have hL : n / 18 + 1 = (n + 1 + 17) / 18 := by omega
  by_cases h7 : n < 7
  · rw [show (first && Nat.blt k.val 7) = true by
      rw [hf, Bool.and_eq_true, Nat.beq_eq, Nat.blt_eq]; omega]
    exact T.ret (h.congr (fun _ => by omega) rfl hL fun _ => by rw [hL])
  · rw [show (first && Nat.blt k.val 7) = false by
      rw [hf, ← Bool.not_eq_true, Bool.and_eq_true, Nat.beq_eq, Nat.blt_eq]; omega]
    refine T.mono (drain_ok (d := n - 7) _ ?_ ?_ ?_ ?_ ?_ ?_ h) ?_
    · intro h j
      rw [ho.S _ _ _ _ (by dsimp only; omega)]
      unfold sOff
      congr 1
      · dsimp only; omega
      · congr 1
        dsimp only; omega
    · dsimp only; omega
    · omega
    · rw [hf, Bool.eq_iff_iff, Bool.and_eq_true, Nat.beq_eq, Nat.blt_eq, Nat.blt_eq]; omega
    · omega
    · omega
    · intro m s h
      exact h.congr (fun _ => by omega) rfl hL fun _ => by rw [hL]

/-- One trip, its 72 steps, keeps the invariant. -/
theorem trip_ok {s : St F} {o : Offs} {p₀ : Nat} (hp : p₀ % 4 = 0) (hp' : p₀ ≤ 24) (ho : o.Ok p₀) {first last : Bool}
    (hf : first = Nat.beq p₀ 0) (hl : last = Nat.beq p₀ 24) (h : Inv s₀ (18 * p₀) m s) :
    T defs 𝒱 c E b (trip b first last o m) s (Inv s₀ (18 * p₀ + 72)) :=
  T.loop (fun k m s => Inv s₀ (18 * p₀ + k) m s) h fun k m s h => step_ok hp hp' ho hf hl k h

/-! ### The whole multiply -/

/-- The constant offsets of the first and last trips are those of their chunks. -/
theorem offs_ok (p : Fin 25) : (offs p).Ok p.val where
  W _ _ := rfl
  R u j h := by
    show (![(p.val + u.val + 1) % 28, j.val, 0, 0] : Fin 4 → Nat) = _
    rw [Nat.mod_eq_of_lt h]
  S _ _ _ _ _ := rfl

/-- The middle loop has five trips. -/
theorem trips_eq : midLoop.trips = 5 := by decide +kernel

/-- The middle trips' weight offsets, as numbers. -/
theorem midW_eq (t : Fin midLoop.trips) (u : Fin 4) (c : Fin 18) : midW t u c = ![4 * (t.val + 1) + u.val, 128 * c.val, 0] := by
  revert t u c; decide +kernel

/-- The middle trips' tile offsets, as numbers. -/
theorem midR_eq (t : Fin midLoop.trips) (u : Fin 4) (j : Fin 2) : midR t u j = ![4 * (t.val + 1) + u.val + 1, j.val, 0, 0] := by
  revert t u j; decide +kernel

/-- The middle trips' scale offsets, as numbers. -/
theorem midS_eq (t : Fin midLoop.trips) (d : Fin 5) (c : Fin 18) (h j : Fin 2) :
    midS t d c h j = ![2 * (4 * (t.val + 1) + d.val - 1) + h.val, c.val, 128 * j.val] := by
  revert t d c h j; decide +kernel

/-- The middle trips' offsets are those of their chunks. -/
theorem midOffs_ok (t : Fin midLoop.trips) : (midOffs t).Ok (4 * (t.val + 1)) where
  W u c := midW_eq t u c
  R u j _ := midR_eq t u j
  S d c h j _ := midS_eq t d c h j

/-- The transposed output the multiply leaves. -/
def outOf (wt : Vec F S28x2304x256 .fp8e4m3) (rhs : Vec F S28x2x256x256 .fp8e4m3) (srow : Vec F S56x18x256 .f32) : Vec F S2304x256 .f32 := fun i =>
  have h0 : (i 0).val < 2304 := (i 0).isLt
  have h1 : (i 1).val < 256 := (i 1).isLt
  accP (chunk wt rhs srow ⟨(i 1).val / 128, by omega⟩) ((i 0).val / 128) 27
    (Mxu.ix ⟨(i 0).val % 128, Nat.mod_lt _ (by decide)⟩ ⟨(i 1).val % 128, Nat.mod_lt _ (by decide)⟩)

/-- The whole multiplication leaves the units drained and the sums complete. -/
theorem multiply_ok {s : St F} (h : ∀ q, (∀ r, m.reg q r = none) ∧ ∀ R, m.live q R = false) :
    T defs 𝒱 c E b (multiply b m) s (fun m' s' => m'.Drained ∧ s' = { s with out := outOf s.wt s.rhs s.srow }) := by
  unfold multiply
  refine T.bind (Q := Inv s 0) ?_ ?_
  · refine T.mono (T.loop (N := 2) (fun j m s' => Both s (fun _ => 0) 0 0 (fun q => Nat.blt q.val j) m s') ⟨s.out, rfl, fun q => ?_⟩ ?_) ?_
    · refine ⟨⟨fun i _ h => absurd h (by omega), fun R hR => ?_⟩, ⟨fun h => absurd h (by omega), ?_, ?_⟩, fun p c h => absurd h (Nat.not_lt_zero _)⟩
      · rw [(h q).2 R] at hR; cases hR
      · dsimp only; rw [(h q).1, blt_zero]; rfl
      · exact (h q).1 _
    · intro j m s' h'
      have e1 : (![0, j.val, 0, 0] : Fin 4 → Nat) = tOff 0 j := rfl
      have e2 : (0 : Fin 2) = rg 0 := rfl
      exact push_ok (s₀ := s) (L := 0) (n := 0) (d := fun _ => 0) e1 _ e2 h'
    · intro m s' h'
      refine h'.congr (fun _ => rfl) rfl rfl fun q => ?_
      rw [blt_two]; rfl
  intro m s' h'
  refine T.bind (trip_ok (p₀ := 0) rfl (by omega) (offs_ok 0) rfl rfl h') ?_
  clear h'
  intro m s' h'
  refine T.bind (T.for (fun t m s' => Inv s (18 * (4 * (t + 1))) m s') h' ?_) ?_
  · intro t m s' h'
    have ht : t.val < 5 := t.isLt
    have hb : Nat.beq (4 * (t.val + 1)) 24 = false := by rw [← Bool.not_eq_true, Nat.beq_eq]; omega
    have hb' : Nat.beq (4 * (t.val + 1)) 0 = false := by rw [← Bool.not_eq_true, Nat.beq_eq]; omega
    have := trip_ok (defs := defs) (𝒱 := 𝒱) (c := c) (E := E) (b := b) (by omega) (by omega) (midOffs_ok t) hb'.symm hb.symm h'
    rwa [show 18 * (4 * (t.val + 1)) + 72 = 18 * (4 * (t.val + 1 + 1)) by omega] at this
  intro m s' h'
  rw [trips_eq] at h'
  refine T.bind (trip_ok (p₀ := 24) rfl (by omega) (offs_ok 24) rfl rfl h') ?_
  clear h'
  intro m s' h'
  refine T.mono (T.loop (N := 7) (fun k m s' => Both s (fun _ => 497 + k) 504 28 (fun _ => false) m s') ?_ ?_) ?_
  · exact h'.congr (fun _ => rfl) rfl rfl fun _ => rfl
  · intro k m s' h'
    have hk := k.isLt
    refine drain_ok (d := 497 + k.val) _ ?_ ?_ ?_ ?_ ?_ ?_ h'
    · intro h j
      rw [(offs_ok 24).S _ _ _ _ (by decide)]
      unfold sOff
      congr 1
      · change 2 * (24 + 4 - 1) + _ = _
        omega
      · congr 1
        dsimp only; omega
    · dsimp only; omega
    · omega
    · symm; rw [← Bool.not_eq_true, Nat.blt_eq]; omega
    · omega
    · omega
  · rintro m s' ⟨O, rfl, h'⟩
    refine ⟨⟨fun q r => ?_, fun q R => ?_⟩, ?_⟩
    · have h1 : m.reg q 0 = none := (h' q).hold.cur
      have h2 : m.reg q 1 = none := (h' q).hold.oth
      match r with
      | 0 => rw [h1]; rfl
      | 1 => rw [h2]; rfl
    · by_contra hc
      obtain ⟨i, h1, h2, _⟩ := (h' q).pend.live R (by simpa using hc)
      dsimp only at h1
      omega
    · congr 1
      funext i
      have h0 : (i 0).val < 2304 := (i 0).isLt
      have h1 : (i 1).val < 256 := (i 1).isLt
      have hd := (h' ⟨(i 1).val / 128, by omega⟩).done 27 ⟨(i 0).val / 128, by omega⟩ (by dsimp only; omega) (by dsimp only; omega)
      have := congrFun hd (Mxu.ix ⟨(i 0).val % 128, Nat.mod_lt _ (by decide)⟩ ⟨(i 1).val % 128, Nat.mod_lt _ (by decide)⟩)
      unfold outOf
      rw [← this]
      show O i = O _
      congr 1
      funext a
      apply Fin.ext
      match a with
      | 0 => show (i 0).val = 128 * ((i 0).val / 128) + 1 * ((i 0).val % 128); omega
      | 1 => show (i 1).val = 128 * ((i 1).val / 128) + 1 * ((i 1).val % 128); omega

end Rolled

end

end
-- ==== Proof.Quantise.lean ====
module

public import proofs.«01_k».proof.Proof.Multiply

/-! The quantising part of the body, and the whole body: what it leaves in its buffers. -/

@[expose] public section

noncomputable section

namespace Rolled

open Idealize.ShloMosaic Idealize.ShloMosaic.TcCoe
open Idealize.SL Idealize.SL.Sem

variable {nD : Nat} {τ : Topo} {sig : RefSig} {Λ : Labels} {F : FTy → Type} [FloatOps F]
variable {defs : Defs nD τ sig (Elt F) Λ} {𝒱 : Variants} {c : Dev nD} {E : Set ℕ} {b : Bufs sig}

/-- A store of the whole buffer leaves what was stored. -/
theorem upd_full {s : Shape} {e : EltTy} {off : Fin s.rank → Nat} (h : off = fun _ => 0) (inb : ∀ a, off a + s.size a ≤ s.size a)
    (X w : Vec F s e) : upd X (Rect.unit off s.size inb) w = w := by
  subst h
  funext i
  have h := upd_emb X (Rect.whole s) w i
  rw [Rect.emb_whole_apply] at h
  exact h

/-- A load of the whole buffer gives its contents. -/
theorem ld_full {s : Shape} {e : EltTy} {off : Fin s.rank → Nat} (h : off = fun _ => 0) (inb : ∀ a, off a + s.size a ≤ s.size a)
    (X : Vec F s e) : View.ld X (Rect.unit off s.size inb) = X := by
  subst h
  funext i
  show X ((Rect.whole s).emb i) = X i
  rw [Rect.emb_whole_apply]

/-- Two zero offsets. -/
theorem zero2 : (![0, 0] : Fin 2 → Nat) = fun _ => 0 := by funext a; match a with | 0 => rfl | 1 => rfl
/-- Four zero offsets. -/
theorem zero4 : (![0, 0, 0, 0] : Fin 4 → Nat) = fun _ => 0 := by
  funext a; match a with | 0 => rfl | 1 => rfl | 2 => rfl | 3 => rfl

/-- The index `(a, b, c)` of a rank-3 shape. -/
def ix3 {l m n : Nat} (a : Fin l) (b : Fin m) (c : Fin n) : (⟨3, ![l, m, n]⟩ : Shape).Idx :=
  Fin.cons a (Fin.cons b (Fin.cons c finZeroElim))

/-- The index `(a, b, c, d)` of a rank-4 shape. -/
def ix4 {k l m n : Nat} (a : Fin k) (b : Fin l) (c : Fin m) (d : Fin n) : (⟨4, ![k, l, m, n]⟩ : Shape).Idx :=
  Fin.cons a (Fin.cons b (Fin.cons c (Fin.cons d finZeroElim)))

/-! ### The values -/

/-- The rows' columns of a group. -/
abbrev xRect (g : Fin 56) : Rect S256x7168 := Rect.unit (s := S256x7168) ![0, 128 * g.val] S256x128.size (xcol_inb g)
/-- A group's column of the maxima, or of the reciprocals. -/
abbrev colRect (g : Fin 56) : Rect S256x128 := Rect.unit (s := S256x128) ![0, g.val] S256x1.size (col_inb g)
/-- A group's scales of the weights. -/
abbrev wsRect (g : Fin 56) : Rect S56x18x128 := Rect.unit (s := S56x18x128) ![g.val, 0, 0] S1x18x128.size (wsb_inb g)
/-- A group's combined scales for one unit's rows. -/
abbrev srowRect (g : Fin 56) (j : Fin 2) : Rect S56x18x256 := Rect.unit (s := S56x18x256) ![g.val, 0, 128 * j.val] S1x18x128.size (srow_inb g j)
/-- A group's codes in the tile of one unit. -/
abbrev rhsRect (g : Fin 56) (j : Fin 2) : Rect S28x2x256x256 :=
  Rect.unit (s := S28x2x256x256) ![g.val / 2, j.val, 128 * (g.val % 2), 128 * (g.val % 2)] S1x1x128x128.size (rhs_inb g j)

/-- Group `g`'s tokens. -/
def xG (X : Vec F S256x7168 .bf16) (g : Fin 56) : Vec F S256x128 .bf16 := View.ld X (xRect g)

/-- The largest absolute value of every row of every group. -/
def amaxV (X : Vec F S256x7168 .bf16) : FVec F S256x56 .f32 := fun i => rowMax (xG X (i 1)) (Mxu.ix (i 0) 0)

/-- The scales. -/
def scalesV (X : Vec F S256x7168 .bf16) : FVec F S256x56 .f32 := scaleOf (amaxV X)

/-- Group `g`'s reciprocals. -/
def invCol (X : Vec F S256x7168 .bf16) (g : Fin 56) : Vec F S256x1 .f32 := fun i => invOf (amaxV X) (Mxu.ix (i 0) g)

/-- Group `g`'s codes. -/
def codeG (X : Vec F S256x7168 .bf16) (g : Fin 56) : FVec F S256x128 .fp8e4m3 := codeOf (xG X g) (invCol X g)

/-- The codes. -/
def codesV (X : Vec F S256x7168 .bf16) : Vec F S256x7168 .fp8e4m3 := fun i =>
  have h : (i 1).val < 7168 := (i 1).isLt
  codeG X ⟨(i 1).val / 128, by omega⟩ (Mxu.ix (i 0) ⟨(i 1).val % 128, Nat.mod_lt _ (by decide)⟩)

/-- Half `j` of a group's codes, as its block of the right-hand tiles. -/
def blockOf (v : FVec F S256x128 .fp8e4m3) (j : Fin 2) : FVec F S1x1x128x128 .fp8e4m3 :=
  shapeCast S1x1x128x128 (extractStridedSlice S128x128 ![128 * j.val, 0] v (code_slices j)) (by decide)

/-- The right-hand tiles: the diagonal blocks the codes, the others what they were. -/
def rhsV (X : Vec F S256x7168 .bf16) (R : Vec F S28x2x256x256 .fp8e4m3) : Vec F S28x2x256x256 .fp8e4m3 := fun i =>
  have h0 : (i 0).val < 28 := (i 0).isLt
  have h2 : (i 2).val < 256 := (i 2).isLt
  if (i 2).val / 128 = (i 3).val / 128 then
    blockOf (codeG X ⟨2 * (i 0).val + (i 2).val / 128, by omega⟩) (i 1)
      (ix4 0 0 ⟨(i 2).val % 128, Nat.mod_lt _ (by decide)⟩ ⟨(i 3).val % 128, Nat.mod_lt _ (by decide)⟩)
  else R i

/-- The combined scales, from the transposed scales. -/
def srowV (t : FVec F S56x256 .f32) (W : Vec F S56x18x128 .f32) : Vec F S56x18x256 .f32 := fun i =>
  have h2 : (i 2).val < 256 := (i 2).isLt
  srowVal t (i 0) ⟨(i 2).val / 128, by omega⟩ (View.ld W (wsRect (i 0))) (ix3 0 (i 1) ⟨(i 2).val % 128, Nat.mod_lt _ (by decide)⟩)

/-- The transposed scales. -/
def tScales (X : Vec F S256x7168 .bf16) : FVec F S56x256 .f32 := transpose S56x256 [1, 0] (scalesV X) (by decide)

/-! ### The row maxima -/

/-- One group's maximum is written to its column. -/
theorem amax_ok {s : St F} (g : Fin 56) (h : ∃ A, s = { s with amax := A }) :
    T defs 𝒱 c E b (amaxG b g) s (fun _ s' => s' = { s with amax := upd s.amax (colRect g) (rowMax (xG s.x g)) }) := by
  refine T.load_bind (Fld.x nD τ F b) ?_
  refine T.load_bind (Fld.amax nD τ F b) ?_
  refine T.store (Fld.amax nD τ F b) ?_
  rw [shapeCast_id]
  rfl

/-- Two groups' columns are apart. -/
theorem colRect_miss {g g' : Fin 56} (h : g ≠ g') (k : (colRect g).shape.Idx) : (colRect g).emb k ∉ (colRect g').set := by
  intro hm
  obtain ⟨k', hk⟩ := (colRect g').exists_idx_of_mem hm
  have h1 := congrArg Fin.val (congrFun hk 1)
  have a1 : (k 1).val < 1 := (k 1).isLt
  have b1 : (k' 1).val < 1 := (k' 1).isLt
  change g'.val + 1 * (k' 1).val = g.val + 1 * (k 1).val at h1
  exact h (Fin.ext (by omega))

/-- All the maxima are written. -/
theorem amaxes_ok {s : St F} :
    T defs 𝒱 c E b (each 56 fun g => amaxG b g) s (fun _ s' => ∃ A, s' = { s with amax := A } ∧
      ∀ g : Fin 56, View.ld A (colRect g) = rowMax (xG s.x g)) := by
  refine T.mono (T.loop (N := 56) (fun k _ s' => ∃ A, s' = { s with amax := A } ∧
      ∀ g : Fin 56, g.val < k → View.ld A (colRect g) = rowMax (xG s.x g)) ?_ ?_) ?_
  · exact ⟨s.amax, rfl, fun g h => absurd h (Nat.not_lt_zero _)⟩
  · rintro k - s' ⟨A, rfl, hA⟩
    refine T.mono (amax_ok k ⟨A, rfl⟩) ?_
    rintro - s' rfl
    refine ⟨_, rfl, fun g hg => ?_⟩
    by_cases hgk : g = k
    · subst hgk
      rw [ld_upd]
    · have : g.val ≠ k.val := fun e => hgk (Fin.ext e)
      rw [ld_upd_ne _ _ _ _ (colRect_miss hgk)]
      exact hA g (by omega)
  · rintro - s' ⟨A, rfl, hA⟩
    exact ⟨A, rfl, fun g => hA g g.isLt⟩

/-! ### The scales -/

/-- The first 56 columns lie in the buffer. -/
theorem inb56 : ∀ a, (![0, 0] : Fin 2 → Nat) a + S256x56.size a ≤ S256x128.size a := by decide

/-- The scales and the reciprocals are written. -/
theorem scales_ok {s : St F} (hA : ∀ g : Fin 56, View.ld s.amax (colRect g) = rowMax (xG s.x g)) :
    T defs 𝒱 c E b (scalesAll b) s (fun t s' => t = tScales s.x ∧ ∃ I, s' = { s with scales := scalesV s.x, inv := I } ∧
      ∀ g : Fin 56, View.ld I (colRect g) = invCol s.x g) := by
  have ha : View.ld s.amax (Rect.unit (s := S256x128) ![0, 0] S256x56.size inb56) = amaxV s.x := by
    funext i
    have := congrFun (hA (i 1)) (Mxu.ix (i 0) 0)
    refine Eq.trans (congrArg s.amax ?_) this
    funext a
    apply Fin.ext
    match a with
    | 0 => rfl
    | 1 => show 0 + 1 * (i 1).val = (i 1).val + 1 * 0; omega
  refine T.load_bind (Fld.amax nD τ F b) ?_
  rw [ha]
  refine T.load_bind (Fld.scales nD τ F b) ?_
  refine T.store_bind (Fld.scales nD τ F b) ?_
  refine T.load_bind (Fld.inv nD τ F b) ?_
  refine T.store_bind (Fld.inv nD τ F b) ?_
  refine T.ret ⟨rfl, upd s.inv (Rect.unit (s := S256x128) ![0, 0] S256x56.size inb56) (invOf (amaxV s.x)), ?_, ?_⟩
  · rw [shapeCast_id, upd_full zero2]
    rfl
  · intro g
    funext i
    have h1 : (i 1).val < 1 := (i 1).isLt
    refine Eq.trans (congrArg (upd s.inv (Rect.unit (s := S256x128) ![0, 0] S256x56.size inb56) (invOf (amaxV s.x))) ?_) (upd_emb s.inv (Rect.unit (s := S256x128) ![0, 0] S256x56.size inb56) (invOf (amaxV s.x)) (Mxu.ix (i 0) g))
    funext a
    apply Fin.ext
    match a with
    | 0 => show 0 + 1 * (i 0).val = 0 + 1 * (i 0).val; rfl
    | 1 => show g.val + 1 * (i 1).val = 0 + 1 * g.val; omega

/-! ### The combined scales -/

/-- Two pieces of the combined scales are apart. -/
theorem srowRect_miss {g g' : Fin 56} {j j' : Fin 2} (h : 2 * g.val + j.val ≠ 2 * g'.val + j'.val) (k : (srowRect g j).shape.Idx) :
    (srowRect g j).emb k ∉ (srowRect g' j').set := by
  intro hm
  obtain ⟨k', hk⟩ := (srowRect g' j').exists_idx_of_mem hm
  have h0 := congrArg Fin.val (congrFun hk 0)
  have h2 := congrArg Fin.val (congrFun hk 2)
  have a0 : (k 0).val < 1 := (k 0).isLt
  have b0 : (k' 0).val < 1 := (k' 0).isLt
  have a2 : (k 2).val < 128 := (k 2).isLt
  have b2 : (k' 2).val < 128 := (k' 2).isLt
  change g'.val + 1 * (k' 0).val = g.val + 1 * (k 0).val at h0
  change 128 * j'.val + 1 * (k' 2).val = 128 * j.val + 1 * (k 2).val at h2
  omega

/-- The combined scales are written. -/
theorem srows_ok {s : St F} (t : FVec F S56x256 .f32) :
    T defs 𝒱 c E b (each 56 fun g => srowG b t g) s (fun _ s' => s' = { s with srow := srowV t s.wsb }) := by
  let I : Nat → PUnit → St F → Prop := fun n _ s' => ∃ R, s' = { s with srow := R } ∧
      ∀ (g : Fin 56) (j : Fin 2), 2 * g.val + j.val < n → View.ld R (srowRect g j) = srowVal t g j (View.ld s.wsb (wsRect g))
  refine T.mono (T.loop (N := 56) (fun k => I (2 * k)) ?_ ?_) ?_
  · exact ⟨s.srow, rfl, fun g j h => absurd h (Nat.not_lt_zero _)⟩
  · intro k a s' h
    show T defs 𝒱 c E b (loop 2 (fun j _ => srowGJ b t k j) PUnit.unit) s' (I (2 * k.val + 2))
    refine T.loop (N := 2) (fun j => I (2 * k.val + j)) h ?_
    rintro j - s' ⟨R, rfl, hR⟩
    refine T.load_bind (Fld.wsb nD τ F b) ?_
    refine T.load_bind (Fld.srow nD τ F b) ?_
    refine T.store (Fld.srow nD τ F b) ?_
    refine ⟨_, rfl, fun g j' hg => ?_⟩
    by_cases hgk : 2 * g.val + j'.val = 2 * k.val + j.val
    · have h1 := j.isLt
      have h2 := j'.isLt
      obtain rfl : g = k := Fin.ext (by omega)
      obtain rfl : j' = j := Fin.ext (by omega)
      rw [ld_upd]
    · rw [ld_upd_ne _ _ _ _ (srowRect_miss hgk)]
      exact hR g j' (by omega)
  · rintro - s' ⟨R, rfl, hR⟩
    congr 1
    funext i
    have h2 : (i 2).val < 256 := (i 2).isLt
    have h0 : (i 0).val < 56 := (i 0).isLt
    have := congrFun (hR (i 0) ⟨(i 2).val / 128, by omega⟩ (by show 2 * (i 0).val + (i 2).val / 128 < 2 * 56; omega))
      (ix3 0 (i 1) ⟨(i 2).val % 128, Nat.mod_lt _ (by decide)⟩)
    refine Eq.trans (congrArg R ?_) this
    funext a
    apply Fin.ext
    match a with
    | 0 => show (i 0).val = (i 0).val + 1 * 0; omega
    | 1 => show (i 1).val = 0 + 1 * (i 1).val; omega
    | 2 => show (i 2).val = 128 * ((i 2).val / 128) + 1 * ((i 2).val % 128); omega

/-! ### The codes and the right-hand tiles -/

/-- Two groups' columns of the rows are apart. -/
theorem xRect_miss {g g' : Fin 56} (h : g ≠ g') (k : (xRect g).shape.Idx) : (xRect g).emb k ∉ (xRect g').set := by
  intro hm
  obtain ⟨k', hk⟩ := (xRect g').exists_idx_of_mem hm
  have h1 := congrArg Fin.val (congrFun hk 1)
  have a1 : (k 1).val < 128 := (k 1).isLt
  have b1 : (k' 1).val < 128 := (k' 1).isLt
  change 128 * g'.val + 1 * (k' 1).val = 128 * g.val + 1 * (k 1).val at h1
  exact h (Fin.ext (by omega))

/-- The coordinates of a place in a group's part of a tile. -/
theorem rhsRect_val (g : Fin 56) (j : Fin 2) (k : (rhsRect g j).shape.Idx) :
    (((rhsRect g j).emb k) 0).val = g.val / 2 ∧ (((rhsRect g j).emb k) 1).val = j.val
      ∧ (((rhsRect g j).emb k) 2).val = 128 * (g.val % 2) + (k 2).val ∧ (((rhsRect g j).emb k) 3).val = 128 * (g.val % 2) + (k 3).val
      ∧ (k 2).val < 128 ∧ (k 3).val < 128 := by
  have a0 : (k 0).val < 1 := (k 0).isLt
  have a1 : (k 1).val < 1 := (k 1).isLt
  have a2 : (k 2).val < 128 := (k 2).isLt
  have a3 : (k 3).val < 128 := (k 3).isLt
  refine ⟨?_, ?_, ?_, ?_, a2, a3⟩
  · show g.val / 2 + 1 * (k 0).val = _; omega
  · show j.val + 1 * (k 1).val = _; omega
  · show 128 * (g.val % 2) + 1 * (k 2).val = _; omega
  · show 128 * (g.val % 2) + 1 * (k 3).val = _; omega

/-- What the coordinates of a place in a group's part of a tile say of the group. -/
theorem rhsRect_mem {g : Fin 56} {j : Fin 2} {i : S28x2x256x256.Idx} (h : i ∈ (rhsRect g j).set) :
    (i 0).val = g.val / 2 ∧ (i 1).val = j.val ∧ (i 2).val / 128 = g.val % 2 ∧ (i 3).val / 128 = g.val % 2 := by
  obtain ⟨k, rfl⟩ := (rhsRect g j).exists_idx_of_mem h
  obtain ⟨h0, h1, h2, h3, h4, h5⟩ := rhsRect_val g j k
  change (((rhsRect g j).emb k) 0).val = _ ∧ (((rhsRect g j).emb k) 1).val = _ ∧ (((rhsRect g j).emb k) 2).val / 128 = _ ∧ (((rhsRect g j).emb k) 3).val / 128 = _
  omega

/-- Two groups' parts of the tiles are apart. -/
theorem rhsRect_miss {g g' : Fin 56} {j j' : Fin 2} (h : 2 * g.val + j.val ≠ 2 * g'.val + j'.val) (k : (rhsRect g j).shape.Idx) :
    (rhsRect g j).emb k ∉ (rhsRect g' j').set := by
  intro hm
  obtain ⟨h0, h1, h2, h3⟩ := rhsRect_mem hm
  obtain ⟨e0, e1, e2, e3, e4, e5⟩ := rhsRect_val g j k
  omega

/-- What the code loop has done after `n` of its `112` half groups, the codes of `g` groups stored. -/
def CodeInv (s : St F) (g n : Nat) (_ : PUnit) (s' : St F) : Prop :=
  ∃ C R, s' = { s with codes := C, rhs := R } ∧ (∀ g' : Fin 56, g'.val < g → View.ld C (xRect g') = codeG s.x g') ∧
    (∀ (g' : Fin 56) (j : Fin 2), 2 * g'.val + j.val < n → View.ld R (rhsRect g' j) = blockOf (codeG s.x g') j) ∧
    ∀ i : S28x2x256x256.Idx, (i 2).val / 128 ≠ (i 3).val / 128 → R i = s.rhs i

/-- The codes are written, to the result and to the tiles. -/
theorem codes_ok {s : St F} (hI : ∀ g : Fin 56, View.ld s.inv (colRect g) = invCol s.x g) :
    T defs 𝒱 c E b (each 56 fun g => codesG b g) s (fun _ s' => s' = { s with codes := codesV s.x, rhs := rhsV s.x s.rhs }) := by
  refine T.mono (T.loop (N := 56) (fun k => CodeInv s k (2 * k)) ?_ ?_) ?_
  · exact ⟨s.codes, s.rhs, rfl, fun g h => absurd h (Nat.not_lt_zero _), fun g j h => absurd h (Nat.not_lt_zero _), fun _ _ => rfl⟩
  · rintro k - s' ⟨C, R, rfl, hC, hR, hO⟩
    refine T.load_bind (Fld.x nD τ F b) ?_
    refine T.load_bind (Fld.inv nD τ F b) ?_
    refine T.load_bind (Fld.codes nD τ F b) ?_
    refine T.store_bind (Fld.codes nD τ F b) ?_
    have hv : codeOf (View.ld s.x (xRect k)) (View.ld s.inv (colRect k)) = codeG s.x k := by rw [hI]; rfl
    dsimp only
    rw [hv]
    refine T.mono (T.loop (N := 2) (fun j => CodeInv s (k.val + 1) (2 * k.val + j)) ?_ ?_) fun _ _ h => h
    · refine ⟨_, _, rfl, fun g hg => ?_, hR, hO⟩
      by_cases hgk : g = k
      · subst hgk
        rw [ld_upd]
      · have : g.val ≠ k.val := fun e => hgk (Fin.ext e)
        rw [ld_upd_ne _ _ _ _ (xRect_miss hgk)]
        exact hC g (by omega)
    · rintro j - s' ⟨C, R, rfl, hC, hR, hO⟩
      refine T.load_bind (Fld.rhs nD τ F b) ?_
      refine T.store (Fld.rhs nD τ F b) ?_
      refine ⟨_, _, rfl, hC, fun g j' hg => ?_, fun i hi => ?_⟩
      · by_cases hgk : 2 * g.val + j'.val = 2 * k.val + j.val
        · have h1 := j.isLt
          have h2 := j'.isLt
          obtain rfl : g = k := Fin.ext (by omega)
          obtain rfl : j' = j := Fin.ext (by omega)
          rw [ld_upd]; rfl
        · rw [ld_upd_ne _ _ _ _ (rhsRect_miss hgk)]
          exact hR g j' (by omega)
      · refine Eq.trans (upd_miss _ _ _ fun hm => ?_) (hO i hi)
        obtain ⟨h0, h1, h2, h3⟩ := rhsRect_mem hm
        omega
  · rintro - s' ⟨C, R, rfl, hC, hR, hO⟩
    have e1 : C = codesV s.x := by
      funext i
      have h1 : (i 1).val < 7168 := (i 1).isLt
      have := congrFun (hC ⟨(i 1).val / 128, by omega⟩ (by show (i 1).val / 128 < 56; omega))
        (Mxu.ix (i 0) ⟨(i 1).val % 128, Nat.mod_lt _ (by decide)⟩)
      refine Eq.trans (congrArg C ?_) this
      funext a
      apply Fin.ext
      match a with
      | 0 => show (i 0).val = 0 + 1 * (i 0).val; omega
      | 1 => show (i 1).val = 128 * ((i 1).val / 128) + 1 * ((i 1).val % 128); omega
    have e2 : R = rhsV s.x s.rhs := by
      funext i
      have h0 : (i 0).val < 28 := (i 0).isLt
      have h1 : (i 1).val < 2 := (i 1).isLt
      have h2 : (i 2).val < 256 := (i 2).isLt
      have h3 : (i 3).val < 256 := (i 3).isLt
      unfold rhsV
      by_cases hd : (i 2).val / 128 = (i 3).val / 128
      · rw [if_pos hd]
        have := congrFun (hR ⟨2 * (i 0).val + (i 2).val / 128, by omega⟩ (i 1)
          (by show 2 * (2 * (i 0).val + (i 2).val / 128) + (i 1).val < 2 * 56; omega))
          (ix4 0 0 ⟨(i 2).val % 128, Nat.mod_lt _ (by decide)⟩ ⟨(i 3).val % 128, Nat.mod_lt _ (by decide)⟩)
        refine Eq.trans (congrArg R ?_) this
        funext a
        apply Fin.ext
        match a with
        | 0 => show (i 0).val = (2 * (i 0).val + (i 2).val / 128) / 2 + 1 * 0; omega
        | 1 => show (i 1).val = (i 1).val + 1 * 0; omega
        | 2 => show (i 2).val = 128 * ((2 * (i 0).val + (i 2).val / 128) % 2) + 1 * ((i 2).val % 128); omega
        | 3 => show (i 3).val = 128 * ((2 * (i 0).val + (i 2).val / 128) % 2) + 1 * ((i 3).val % 128); omega
      · rw [if_neg hd]
        exact hO i hd
    subst e1 e2
    rfl

/-- The quantiser as a whole. -/
theorem quantise_ok {s : St F} :
    T defs 𝒱 c E b (quantise b) s (fun _ s' => ∃ A I, s' = { s with scales := scalesV s.x, codes := codesV s.x, rhs := rhsV s.x s.rhs, srow := srowV (tScales s.x) s.wsb, amax := A, inv := I }) := by
  refine T.bind amaxes_ok ?_
  rintro - s' ⟨A, rfl, hA⟩
  refine T.bind (scales_ok hA) ?_
  rintro t s' ⟨rfl, I, rfl, hI⟩
  refine T.bind (srows_ok _) ?_
  rintro - s' rfl
  refine T.mono (codes_ok hI) ?_
  rintro - s' rfl
  exact ⟨A, I, rfl⟩

/-! ### The body -/

/-- The cleared right-hand tiles. -/
def zeroR : Vec F S28x2x256x256 .fp8e4m3 := broadcast S28x2x256x256 (Scalar.ofBits .fp8e4m3 0x00#8)

/-- The blocks off the diagonal are clear. -/
def Clear (R : Vec F S28x2x256x256 .fp8e4m3) : Prop :=
  ∀ i : S28x2x256x256.Idx, (i 2).val / 128 ≠ (i 3).val / 128 → R i = zeroR i

/-- Tiles of zeros are zero off the diagonal blocks. -/
theorem clear_zeroR : Clear (zeroR (F := F)) := fun _ _ => rfl

/-- Where the tiles are zero off the diagonal, writing the codes gives what it gives over zeros. -/
theorem rhsV_clear {X : Vec F S256x7168 .bf16} {R : Vec F S28x2x256x256 .fp8e4m3} (h : Clear R) : rhsV X R = rhsV X zeroR := by
  funext i
  unfold rhsV
  by_cases hd : (i 2).val / 128 = (i 3).val / 128
  · rw [if_pos hd, if_pos hd]
  · rw [if_neg hd, if_neg hd, h i hd]

/-- Writing the codes leaves the tiles zero off the diagonal blocks. -/
theorem clear_rhsV (X : Vec F S256x7168 .bf16) : Clear (rhsV X zeroR) := by
  intro i hd
  unfold rhsV
  rw [if_neg hd]

/-- Popping every slot leaves none alive. -/
theorem popAll_live (q : Fin 2) (R : Fin 1024) : (popAll (Mxu.init : Mxu F)).live q R = false := by
  simp only [popAll, Mxu.live_pop, Mxu.live_init, ite_self]

/-- The start: the units are empty, the tiles zero off the diagonal. -/
theorem start_ok {s : St F} (first : BitVec 1) (h : first ≠ 1#1 → Clear s.rhs) :
    T defs 𝒱 c E b (start b first) s (fun m s' => (∀ q, (∀ r, m.reg q r = none) ∧ ∀ R, m.live q R = false) ∧
      ∃ R, s' = { s with rhs := R } ∧ Clear R) := by
  unfold start
  by_cases hf : first = 1#1
  · rw [dif_pos hf]
    refine T.load_bind (Fld.rhs nD τ F b) ?_
    refine T.store_bind (Fld.rhs nD τ F b) ?_
    refine T.ret ⟨fun q => ⟨fun r => rfl, popAll_live q⟩, zeroR, ?_, clear_zeroR⟩
    rw [shapeCast_id, upd_full zero4]
    rfl
  · rw [dif_neg hf]
    exact T.ret ⟨fun q => ⟨fun r => rfl, fun R => rfl⟩, s.rhs, rfl, h hf⟩

/-- The output. -/
def yV (X : Vec F S256x7168 .bf16) (wt : Vec F S28x2304x256 .fp8e4m3) (W : Vec F S56x18x128 .f32) : Vec F S256x2304 .bf16 :=
  truncf .bf16 (transpose S256x2304 [1, 0] (outOf wt (rhsV X zeroR) (srowV (tScales X) W)) (by decide)) (by decide)

/-- The end: the sums are transposed and rounded into the product. -/
theorem finish_ok {s : St F} : T defs 𝒱 c E b (finish b) s (fun _ s' =>
    s' = { s with y := truncf .bf16 (transpose S256x2304 [1, 0] s.out (by decide)) (by decide) }) := by
  refine T.load_bind (Fld.out nD τ F b) ?_
  refine T.load_bind (Fld.y nD τ F b) ?_
  refine T.store (Fld.y nD τ F b) ?_
  rw [upd_full zero2, ld_full zero2]

/-- Drained units end the program. -/
theorem exit_ok {s : St F} {m : Mxu F} (h : m.Drained) : T defs 𝒱 c E b m.exit s (fun _ s' => s' = s) := by
  refine T.assume h (T.ret rfl)

/-- What the body leaves: its inputs as they were, the output, the codes and the scales as functions of them, the
    right-hand tiles clear off the diagonal, the other scratch at anything. -/
def After (s s' : St F) : Prop :=
  ∃ A I O, s' = { x := s.x, wt := s.wt, wsb := s.wsb, y := yV s.x s.wt s.wsb, codes := codesV s.x, scales := scalesV s.x, rhs := rhsV s.x zeroR, amax := A, inv := I, srow := srowV (tScales s.x) s.wsb, out := O }

/-- The whole body, from a state whose tiles are zero off the diagonal unless it is the first. -/
theorem body_ok {s : St F} (first : BitVec 1) (h : first ≠ 1#1 → Clear s.rhs) :
    T defs 𝒱 c E b (body b first) s (fun _ s' => After s s') := by
  unfold body
  refine T.bind (start_ok first h) ?_
  rintro m s' ⟨hm, R, rfl, hR⟩
  refine T.bind quantise_ok ?_
  rintro - s' ⟨A, I, rfl⟩
  refine T.bind (multiply_ok hm) ?_
  rintro m' s' ⟨hd, rfl⟩
  refine T.bind finish_ok ?_
  rintro - s' rfl
  refine T.mono (exit_ok hd) ?_
  rintro - s' rfl
  refine ⟨A, I, outOf s.wt (rhsV s.x zeroR) (srowV (tScales s.x) s.wsb), ?_⟩
  dsimp only
  rw [rhsV_clear hR]
  rfl

end Rolled

end

end
-- ==== Proof.RunKernel.lean ====
module

public import proofs.«01_k».proof.Proof.MatchKernel
public import proofs.«01_k».proof.Proof.Quantise
public import proofs.«01_k».proof.Proof.Gen.Kernel.Frame
public import Idealize.ShloMosaic.Lib.Claim

/-! The run of the kernel: the body's triple at every grid point, what every point leaves in the result windows, and the
frame. The right-hand tiles carry from one point to the next that their off-diagonal blocks are clear. -/

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point -/

/-- The buffers the body runs on at point `t`. -/
def bufs (t : Fin cfg0.N) : Rolled.Bufs sig :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _⟩

/-- Whether `t` is the first point, as the body asks it. -/
def first (t : Fin cfg0.N) : BitVec 1 :=
  Scalar.cmpi .ne (Scalar.extui (Scalar.cmpi .eq (BitVec.ofNat 32 ((grid0.coords t) 0).val) 0#32) : BitVec 32) 0#32

/-- The first point is marked as first. -/
theorem first_zero (t : Fin cfg0.N) (h : t.val = 0) : first t = 1#1 := by
  obtain ⟨n, hn⟩ := t
  dsimp only at h
  subst h
  exact (by decide : ∀ hn, first ⟨0, hn⟩ = 1#1) hn

/-- The printed body at a point is the rolled one. -/
theorem bodyAt_eq (t : Fin cfg0.N) : bodyAt0 (F := F) t = Rolled.body (bufs t) (first t) := Match.scoped_eq _ _ _ _ _ _ _ _ _ _ _ _ _ _ _ _ _ _ _ _ _ _ _

/-! ## The pipeline's proof data -/

/-- What the core carries between points: the scratch buffers at anything, but for the right-hand tiles, clear off the
    diagonal from the second point on; the generator register. -/
def carried (c : Dev nD) (n : Nat) : sProp 𝕄 :=
  iprop((∃ f : Vec F Rolled.S28x2x256x256 .fp8e4m3, ⌜n = 0 ∨ Rolled.Clear f⌝ ∗ owns (c : Thread nD τ) (Memref.whole cc0_scratch0) fullShare f)
    ∗ (∃ f, owns (c : Thread nD τ) (Memref.whole cc0_scratch1) fullShare f)
    ∗ (∃ f, owns (c : Thread nD τ) (Memref.whole cc0_scratch2) fullShare f)
    ∗ (∃ f, owns (c : Thread nD τ) (Memref.whole cc0_scratch3) fullShare f)
    ∗ (∃ f, owns (c : Thread nD τ) (Memref.whole cc0_scratch4) fullShare f)
    ∗ ∃ r, prngReg c r)

/-- What a point carries is there at the start. -/
theorem carried_in (c : Dev nD) : (Pipeline.ΦA spec0 c : sProp 𝕄) ⊢ carried (F := F) c 0 := by
  unfold Pipeline.ΦA carried
  rw [scopedRest0_eq]
  simp only [owns_whole]
  iintro ⟨⟨⟨%f0, H0⟩, ⟨%f1, H1⟩, ⟨%f2, H2⟩, ⟨%f3, H3⟩, ⟨%f4, H4⟩⟩, Hr⟩
  isplitl [H0]
  · iexists f0; isplitr; · ipureintro; simp
    iexact H0
  isplitl [H1]; · iexists f1; iexact H1
  isplitl [H2]; · iexists f2; iexact H2
  isplitl [H3]; · iexists f3; iexact H3
  isplitl [H4]; · iexists f4; iexact H4
  iexact Hr

/-- What a point carries may be dropped at the end. -/
theorem carried_out (c : Dev nD) (n : Nat) : carried (F := F) c n ⊢ (Pipeline.ΦA spec0 c : sProp 𝕄) := by
  unfold Pipeline.ΦA carried
  rw [scopedRest0_eq]
  simp only [owns_whole]
  iintro ⟨⟨%f0, %h0, H0⟩, ⟨%f1, H1⟩, ⟨%f2, H2⟩, ⟨%f3, H3⟩, ⟨%f4, H4⟩, Hr⟩
  isplitr [Hr]
  swap; · iexact Hr
  isplitl [H0]; · iexists f0; iexact H0
  isplitl [H1]; · iexists f1; iexact H1
  isplitl [H2]; · iexists f2; iexact H2
  isplitl [H3]; · iexists f3; iexact H3
  iexists f4; iexact H4

/-- The input blocks at point `t`, at the body's own types. -/
def xB (c : Dev nD) (t : Fin cfg0.N) : Vec F Rolled.S256x7168 .bf16 := iblk m c 0 t
/-- The weights at a point. -/
def wB (c : Dev nD) (t : Fin cfg0.N) : Vec F Rolled.S28x2304x256 .fp8e4m3 := iblk m c 1 t
/-- The weights' scales at a point. -/
def wsB (c : Dev nD) (t : Fin cfg0.N) : Vec F Rolled.S56x18x128 .f32 := iblk m c 2 t

/-- The proof data: the arrays as the region finds them; after the body each input at its block, each result at its
    function of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Rolled.yV (xB m c t) (wB m c t) (wsB m c t)
    | ⟨4, _⟩ => Rolled.codesV (xB m c t)
    | ⟨5, _⟩ => Rolled.scalesV (xB m c t)
  Φ t := carried (F := F) c t.val
  q _ := fullShare
  owed _ := 0

/-- The arrays are those that the call finds. -/
theorem A_eq (c : Dev nD) (w : Fin cfg0.W) : (dats m 0 c).A w = V m c (Pipeline.arrRef spec0 w) := by
  dsimp only [dats]

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = Rolled.yV (xB m c t) (wB m c t) (wsB m c t) := by dsimp only [dats]
/-- What the body leaves in window 4. -/
theorem after0_4 (c : Dev nD) (t : Fin cfg0.N) : (dats m 0 c).after 4 t = Rolled.codesV (xB m c t) := by dsimp only [dats]
/-- What the body leaves in window 5. -/
theorem after0_5 (c : Dev nD) (t : Fin cfg0.N) : (dats m 0 c).after 5 t = Rolled.scalesV (xB m c t) := by dsimp only [dats]

/-- What the body finds in window 0. -/
theorem before0_0 (c : Dev nD) (t : Fin cfg0.N) (d) : (dats m 0 c).before 0 t d = iblk m c 0 t :=
  before0_0_of m (dats m 0 c) (A_eq m c 0) (after0_0 m c) t d
/-- What the body finds in window 1. -/
theorem before0_1 (c : Dev nD) (t : Fin cfg0.N) (d) : (dats m 0 c).before 1 t d = iblk m c 1 t :=
  before0_1_of m (dats m 0 c) (A_eq m c 1) (after0_1 m c) t d
/-- What the body finds in window 2. -/
theorem before0_2 (c : Dev nD) (t : Fin cfg0.N) (d) : (dats m 0 c).before 2 t d = iblk m c 2 t :=
  before0_2_of m (dats m 0 c) (A_eq m c 2) (after0_2 m c) t d

/-! ## The body obligation -/

/-- What the body leaves at point `n`, from the input blocks. -/
def kernelPost (c : Dev nD) (t : Fin cfg0.N) (x0 : Vec F Rolled.S256x7168 .bf16) (x1 : Vec F Rolled.S28x2304x256 .fp8e4m3) (x2 : Vec F Rolled.S56x18x128 .f32)
    (n : Nat) : sProp 𝕄 :=
  iprop(carried (F := F) c (n + 1)
        ∗ owns (c : Thread nD τ) (bufs t).x fullShare x0 ∗ owns (c : Thread nD τ) (bufs t).wt fullShare x1 ∗ owns (c : Thread nD τ) (bufs t).wsb fullShare x2
        ∗ owns (c : Thread nD τ) (bufs t).y fullShare (Rolled.yV x0 x1 x2) ∗ owns (c : Thread nD τ) (bufs t).codes fullShare (Rolled.codesV x0)
        ∗ owns (c : Thread nD τ) (bufs t).scales fullShare (Rolled.scalesV x0))

/-- The body on its buffers, at the input blocks and what is carried. -/
theorem sound_kernel (c : Dev nD) (t : Fin cfg0.N) (x0 : Vec F Rolled.S256x7168 .bf16) (x1 : Vec F Rolled.S28x2304x256 .fp8e4m3) (x2 : Vec F Rolled.S56x18x128 .f32)
    (n : Nat) (hn : t.val = n) :
    iprop(carried (F := F) c n
        ∗ owns (c : Thread nD τ) (bufs t).x fullShare x0 ∗ owns (c : Thread nD τ) (bufs t).wt fullShare x1 ∗ owns (c : Thread nD τ) (bufs t).wsb fullShare x2
        ∗ (∃ d, owns (c : Thread nD τ) (bufs t).y fullShare d) ∗ (∃ d, owns (c : Thread nD τ) (bufs t).codes fullShare d) ∗ (∃ d, owns (c : Thread nD τ) (bufs t).scales fullShare d))
      ⊢ wp frame (wpE (defs₀ (F := F)) Variants.none c none) Set.univ (Rolled.body (bufs t) (first t)) (fun _ => kernelPost c t x0 x1 x2 n) := by
  iintro ⟨Hc, H0, H1, H2, ⟨%d3, H3⟩, ⟨%d4, H4⟩, ⟨%d5, H5⟩⟩
  unfold carried
  icases Hc with ⟨⟨%f0, %h0, S0⟩, ⟨%f1, S1⟩, ⟨%f2, S2⟩, ⟨%f3, S3⟩, ⟨%f4, S4⟩, Hr⟩
  have hb := Rolled.body_ok (τ := τ) (defs := defs₀ (F := F)) (𝒱 := Variants.none) (c := c) (E := Set.univ) (b := bufs t)
    (s := ⟨x0, x1, x2, d3, d4, d5, f0, f1, f2, f3, f4⟩) (first t)
    (fun hf => h0.resolve_left fun e => hf (first_zero t (hn.trans e)))
  unfold Rolled.T at hb
  have hw : iprop(Rolled.own (τ := τ) c (bufs t) ⟨x0, x1, x2, d3, d4, d5, f0, f1, f2, f3, f4⟩ ∗ ∃ r, prngReg c r)
      ⊢ wp frame (wpE (defs₀ (F := F)) Variants.none (c : Thread nD τ) none) Set.univ (Rolled.body (bufs t) (first t))
        (fun _ => kernelPost c t x0 x1 x2 n) := by
    refine BIBase.Entails.trans (BI.sep_mono hb (BI.Entails.refl _)) ((wp_frame_r frame (wpE (defs₀ (F := F)) Variants.none (c : Thread nD τ) none) Set.univ).trans
      (wp_mono frame (wpE (defs₀ (F := F)) Variants.none (c : Thread nD τ) none) Set.univ fun _ => ?_))
    unfold kernelPost carried
    iintro ⟨⟨%s', %hs, H⟩, Hr⟩
    obtain ⟨A, I, O, rfl⟩ := hs
    unfold Rolled.own
    icases H with ⟨H0, H1, H2, H3, H4, H5, S0, S1, S2, S3, S4⟩
    isplitl [S0 S1 S2 S3 S4 Hr]
    · isplitl [S0]
      · iexists _; isplitr
        swap; · iexact S0
        ipureintro; exact Or.inr (Rolled.clear_rhsV _)
      isplitl [S1]; · iexists _; iexact S1
      isplitl [S2]; · iexists _; iexact S2
      isplitl [S3]; · iexists _; iexact S3
      isplitl [S4]; · iexists _; iexact S4
      iexact Hr
    isplitl [H0]; · iexact H0
    isplitl [H1]; · iexact H1
    isplitl [H2]; · iexact H2
    isplitl [H3]; · iexact H3
    isplitl [H4]; · iexact H4
    iexact H5
  iapply hw
  unfold Rolled.own
  isplitr [Hr]
  swap; · iexact Hr
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  iexact S4

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at a point, from what it finds to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [bodyAt_eq]
  simp only [before0_0, before0_1, before0_2]
  rw [show (dats m 0 c).Φ t.succ = carried (F := F) c (t.val + 1) from rfl,
    show (dats m 0 c).Φ t.castSucc = carried (F := F) c t.val from rfl,
    show (dats m 0 c).owesAt () t.succ = (dats m 0 c).owesAt () t.castSucc from rfl,
    after0_0, after0_1, after0_2, after0_3, after0_4, after0_5]
  have hw : iprop((carried (F := F) c t.val
        ∗ owns (c : Thread nD τ) (bufs t).x fullShare (xB m c t) ∗ owns (c : Thread nD τ) (bufs t).wt fullShare (wB m c t) ∗ owns (c : Thread nD τ) (bufs t).wsb fullShare (wsB m c t)
        ∗ (∃ d, owns (c : Thread nD τ) (bufs t).y fullShare d) ∗ (∃ d, owns (c : Thread nD τ) (bufs t).codes fullShare d) ∗ (∃ d, owns (c : Thread nD τ) (bufs t).scales fullShare d))
        ∗ (dats m 0 c).owesAt () t.castSucc)
      ⊢ wp frame (wpE (defs₀ (F := F)) Variants.none (c : Thread nD τ) none) Set.univ (Rolled.body (bufs t) (first t))
        (fun _ => iprop(kernelPost c t (xB m c t) (wB m c t) (wsB m c t) t.val ∗ (dats m 0 c).owesAt () t.castSucc)) :=
    BIBase.Entails.trans (BI.sep_mono (sound_kernel c t (xB m c t) (wB m c t) (wsB m c t) t.val rfl) (BI.Entails.refl _))
      (wp_frame_r frame (wpE (defs₀ (F := F)) Variants.none (c : Thread nD τ) none) Set.univ)
  refine BIBase.Entails.trans ?_ (hw.trans (wp_mono frame (wpE (defs₀ (F := F)) Variants.none (c : Thread nD τ) none) Set.univ fun _ => ?_))
  · iintro ⟨HΦ, Ho, ⟨%d0, H0⟩, ⟨%d1, H1⟩, ⟨%d2, H2⟩, ⟨%d3, H3⟩, ⟨%d4, H4⟩, ⟨%d5, H5⟩⟩
    isplitr [Ho]
    swap; · iexact Ho
    isplitl [HΦ]; · iexact HΦ
    isplitl [H0]; · iexact H0
    isplitl [H1]; · iexact H1
    isplitl [H2]; · iexact H2
    isplitl [H3]; · iexists _; iexact H3
    isplitl [H4]; · iexists _; iexact H4
    iexists _; iexact H5
  · unfold kernelPost
    iintro ⟨⟨HΦ, H0, H1, H2, H3, H4, H5⟩, Ho⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body that the call runs at a point. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every weakly fair execution of the program terminates, the results at what the proof data says and every other
    unscoped buffer as the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_in c) (hout := fun c => carried_out c _)

/-- The run: every array is what the points leave in it. -/
theorem run_main : θ_run defs (onTc (τ := τ) (main (F := F))) (s₀ m ρ) (Pipeline.FramePost cfgs (dats m) 0 (V m)) :=
  (θ_run defs _ _).mono (fun _ h => h.1) (run_main_quiescent m ρ)

/-- The run leaves the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the program terminates, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Run

end

end
-- ==== Proof.MatchIdeal.lean ====
module

public import proofs.«01_k».proof.Proof.Gen.KernelIdeal
public import proofs.«01_k».proof.Proof.Rolled
public import Idealize.ShloMosaic.Lib.Pipeline.Regions

/-! The printed kernel body is the body written with loops (`Rolled.body`), at the kernel's own
buffers. -/

@[expose] public section
set_option maxRecDepth 200000
set_option maxHeartbeats 0

noncomputable section
namespace Cert.KernelIdeal.Match
open Idealize.ShloMosaic Idealize.SL.Sem Cert.KernelIdeal Rolled
variable {F : FTy → Type} [FloatOps F]

/-- Three nested sequencings, re-associated. -/
theorem bind3 {E : Type → Type*} {α β γ δ : Type} {X : Prog E α} {f : α → Prog E β} {g : β → Prog E γ} {h : γ → Prog E δ} {k : α → Prog E δ}
   (H : ∀ s, ((f s >>= g) >>= h) = k s) : (((X >>= f) >>= g) >>= h) = X >>= k := by
  rw [bind_assoc, bind_assoc]; congr 1; funext s; rw [← H, bind_assoc]

/-- The first stretch of the printed body: the conditional clearing, then the first groups. -/
theorem head_eq (i : grid0.Coords) (arg1 : Memref Cert.KernelIdeal.sig .tc .vmem Cert.KernelIdeal.S256x7168 .bf16) (harg1 : arg1.IsWhole) (arg2 : Memref Cert.KernelIdeal.sig .tc .vmem Cert.KernelIdeal.S28x2304x256 .fp8e4m3) (harg2 : arg2.IsWhole) (arg3 : Memref Cert.KernelIdeal.sig .tc .vmem Cert.KernelIdeal.S56x18x128 .f32) (harg3 : arg3.IsWhole) (arg4 : Memref Cert.KernelIdeal.sig .tc .vmem Cert.KernelIdeal.S256x2304 .bf16) (harg4 : arg4.IsWhole) (arg5 : Memref Cert.KernelIdeal.sig .tc .vmem Cert.KernelIdeal.S256x7168 .fp8e4m3) (harg5 : arg5.IsWhole) (arg6 : Memref Cert.KernelIdeal.sig .tc .vmem Cert.KernelIdeal.S256x56 .f32) (harg6 : arg6.IsWhole) (arg7 : Memref Cert.KernelIdeal.sig .tc .vmem Cert.KernelIdeal.S28x2x256x256 .fp8e4m3) (harg7 : arg7.IsWhole) (arg8 : Memref Cert.KernelIdeal.sig .tc .vmem Cert.KernelIdeal.S256x128 .f32) (harg8 : arg8.IsWhole) (arg9 : Memref Cert.KernelIdeal.sig .tc .vmem Cert.KernelIdeal.S256x128 .f32) (harg9 : arg9.IsWhole) (arg10 : Memref Cert.KernelIdeal.sig .tc .vmem Cert.KernelIdeal.S56x18x256 .f32) (harg10 : arg10.IsWhole) (arg11 : Memref Cert.KernelIdeal.sig .tc .vmem Cert.KernelIdeal.S2304x256 .f32) (harg11 : arg11.IsWhole) :
   k0_part102 (F := F) i arg1 harg1 arg2 harg2 arg3 harg3 arg4 harg4 arg5 harg5 arg6 harg6 arg7 harg7 arg8 harg8 arg9 harg9 arg10 harg10 arg11 harg11 = (start ⟨arg1, harg1, arg2, harg2, arg3, harg3, arg4, harg4, arg5, harg5, arg6, harg6, arg7, harg7, arg8, harg8, arg9, harg9, arg10, harg10, arg11, harg11⟩ (Scalar.cmpi .ne (Scalar.extui (Scalar.cmpi .eq (BitVec.ofNat 32 (i 0).val) 0#32) : BitVec 32) 0#32) >>= fun s => do
     amaxG ⟨arg1, harg1, arg2, harg2, arg3, harg3, arg4, harg4, arg5, harg5, arg6, harg6, arg7, harg7, arg8, harg8, arg9, harg9, arg10, harg10, arg11, harg11⟩ 0
     amaxG ⟨arg1, harg1, arg2, harg2, arg3, harg3, arg4, harg4, arg5, harg5, arg6, harg6, arg7, harg7, arg8, harg8, arg9, harg9, arg10, harg10, arg11, harg11⟩ 1
     amaxG ⟨arg1, harg1, arg2, harg2, arg3, harg3, arg4, harg4, arg5, harg5, arg6, harg6, arg7, harg7, arg8, harg8, arg9, harg9, arg10, harg10, arg11, harg11⟩ 2
     let v : Vec F S256x128 .bf16 ← Prog.lift (.load arg1 (Rect.unit (s := S256x7168) ![0, 128 * 3] S256x128.size (xcol_inb 3)).toLoadRect (View.loadsAt_vmem pos_S256x128))
     pure ⟨s, absf (extf .f32 (shapeCast S256x128 v (by decide)) (by decide))⟩) := by
  unfold k0_part102 start
  by_cases hc : (Scalar.cmpi .ne (Scalar.extui (Scalar.cmpi .eq (BitVec.ofNat 32 (i 0).val) 0#32) : BitVec 32) 0#32) = 1#1
  · simp only [dif_pos hc]; rfl
  · simp only [dif_neg hc]; rfl

/-- The whole printed body is `Rolled.body`. -/
theorem scoped_eq (i : grid0.Coords) (arg1 : Memref Cert.KernelIdeal.sig .tc .vmem Cert.KernelIdeal.S256x7168 .bf16) (harg1 : arg1.IsWhole) (arg2 : Memref Cert.KernelIdeal.sig .tc .vmem Cert.KernelIdeal.S28x2304x256 .fp8e4m3) (harg2 : arg2.IsWhole) (arg3 : Memref Cert.KernelIdeal.sig .tc .vmem Cert.KernelIdeal.S56x18x128 .f32) (harg3 : arg3.IsWhole) (arg4 : Memref Cert.KernelIdeal.sig .tc .vmem Cert.KernelIdeal.S256x2304 .bf16) (harg4 : arg4.IsWhole) (arg5 : Memref Cert.KernelIdeal.sig .tc .vmem Cert.KernelIdeal.S256x7168 .fp8e4m3) (harg5 : arg5.IsWhole) (arg6 : Memref Cert.KernelIdeal.sig .tc .vmem Cert.KernelIdeal.S256x56 .f32) (harg6 : arg6.IsWhole) (arg7 : Memref Cert.KernelIdeal.sig .tc .vmem Cert.KernelIdeal.S28x2x256x256 .fp8e4m3) (harg7 : arg7.IsWhole) (arg8 : Memref Cert.KernelIdeal.sig .tc .vmem Cert.KernelIdeal.S256x128 .f32) (harg8 : arg8.IsWhole) (arg9 : Memref Cert.KernelIdeal.sig .tc .vmem Cert.KernelIdeal.S256x128 .f32) (harg9 : arg9.IsWhole) (arg10 : Memref Cert.KernelIdeal.sig .tc .vmem Cert.KernelIdeal.S56x18x256 .f32) (harg10 : arg10.IsWhole) (arg11 : Memref Cert.KernelIdeal.sig .tc .vmem Cert.KernelIdeal.S2304x256 .f32) (harg11 : arg11.IsWhole) :
   cc0_scoped (F := F) i arg1 harg1 arg2 harg2 arg3 harg3 arg4 harg4 arg5 harg5 arg6 harg6 arg7 harg7 arg8 harg8 arg9 harg9 arg10 harg10 arg11 harg11 = body ⟨arg1, harg1, arg2, harg2, arg3, harg3, arg4, harg4, arg5, harg5, arg6, harg6, arg7, harg7, arg8, harg8, arg9, harg9, arg10, harg10, arg11, harg11⟩ (Scalar.cmpi .ne (Scalar.extui (Scalar.cmpi .eq (BitVec.ofNat 32 (i 0).val) 0#32) : BitVec 32) 0#32) := by
  unfold cc0_scoped k0_part341 k0_part343 k0_part254 body multiply
  rw [head_eq]
  refine bind3 fun s => ?_
  simp (config := {zeta := false}) only [Scf.for_eq]
  chain_rfl

end Cert.KernelIdeal.Match
-- ==== Proof.RunIdeal.lean ====
module

public import proofs.«01_k».proof.Proof.MatchIdeal
public import proofs.«01_k».proof.Proof.Quantise
public import proofs.«01_k».proof.Proof.Gen.KernelIdeal.Frame
public import Idealize.ShloMosaic.Lib.Claim

/-! The run of the kernel: the body's triple at every grid point, what every point leaves in the result windows, and the
frame. The right-hand tiles carry from one point to the next that their off-diagonal blocks are clear. -/

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point -/

/-- The buffers the body runs on at point `t`. -/
def bufs (t : Fin cfg0.N) : Rolled.Bufs sig :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _⟩

/-- Whether `t` is the first point, as the body asks it. -/
def first (t : Fin cfg0.N) : BitVec 1 :=
  Scalar.cmpi .ne (Scalar.extui (Scalar.cmpi .eq (BitVec.ofNat 32 ((grid0.coords t) 0).val) 0#32) : BitVec 32) 0#32

/-- The first point is marked as first. -/
theorem first_zero (t : Fin cfg0.N) (h : t.val = 0) : first t = 1#1 := by
  obtain ⟨n, hn⟩ := t
  dsimp only at h
  subst h
  exact (by decide : ∀ hn, first ⟨0, hn⟩ = 1#1) hn

/-- The printed body at a point is the rolled one. -/
theorem bodyAt_eq (t : Fin cfg0.N) : bodyAt0 (F := F) t = Rolled.body (bufs t) (first t) := Match.scoped_eq _ _ _ _ _ _ _ _ _ _ _ _ _ _ _ _ _ _ _ _ _ _ _

/-! ## The pipeline's proof data -/

/-- What the core carries between points: the scratch buffers at anything, but for the right-hand tiles, clear off the
    diagonal from the second point on; the generator register. -/
def carried (c : Dev nD) (n : Nat) : sProp 𝕄 :=
  iprop((∃ f : Vec F Rolled.S28x2x256x256 .fp8e4m3, ⌜n = 0 ∨ Rolled.Clear f⌝ ∗ owns (c : Thread nD τ) (Memref.whole cc0_scratch0) fullShare f)
    ∗ (∃ f, owns (c : Thread nD τ) (Memref.whole cc0_scratch1) fullShare f)
    ∗ (∃ f, owns (c : Thread nD τ) (Memref.whole cc0_scratch2) fullShare f)
    ∗ (∃ f, owns (c : Thread nD τ) (Memref.whole cc0_scratch3) fullShare f)
    ∗ (∃ f, owns (c : Thread nD τ) (Memref.whole cc0_scratch4) fullShare f)
    ∗ ∃ r, prngReg c r)

/-- What a point carries is there at the start. -/
theorem carried_in (c : Dev nD) : (Pipeline.ΦA spec0 c : sProp 𝕄) ⊢ carried (F := F) c 0 := by
  unfold Pipeline.ΦA carried
  rw [scopedRest0_eq]
  simp only [owns_whole]
  iintro ⟨⟨⟨%f0, H0⟩, ⟨%f1, H1⟩, ⟨%f2, H2⟩, ⟨%f3, H3⟩, ⟨%f4, H4⟩⟩, Hr⟩
  isplitl [H0]
  · iexists f0; isplitr; · ipureintro; simp
    iexact H0
  isplitl [H1]; · iexists f1; iexact H1
  isplitl [H2]; · iexists f2; iexact H2
  isplitl [H3]; · iexists f3; iexact H3
  isplitl [H4]; · iexists f4; iexact H4
  iexact Hr

/-- What a point carries may be dropped at the end. -/
theorem carried_out (c : Dev nD) (n : Nat) : carried (F := F) c n ⊢ (Pipeline.ΦA spec0 c : sProp 𝕄) := by
  unfold Pipeline.ΦA carried
  rw [scopedRest0_eq]
  simp only [owns_whole]
  iintro ⟨⟨%f0, %h0, H0⟩, ⟨%f1, H1⟩, ⟨%f2, H2⟩, ⟨%f3, H3⟩, ⟨%f4, H4⟩, Hr⟩
  isplitr [Hr]
  swap; · iexact Hr
  isplitl [H0]; · iexists f0; iexact H0
  isplitl [H1]; · iexists f1; iexact H1
  isplitl [H2]; · iexists f2; iexact H2
  isplitl [H3]; · iexists f3; iexact H3
  iexists f4; iexact H4

/-- The input blocks at point `t`, at the body's own types. -/
def xB (c : Dev nD) (t : Fin cfg0.N) : Vec F Rolled.S256x7168 .bf16 := iblk m c 0 t
/-- The weights at a point. -/
def wB (c : Dev nD) (t : Fin cfg0.N) : Vec F Rolled.S28x2304x256 .fp8e4m3 := iblk m c 1 t
/-- The weights' scales at a point. -/
def wsB (c : Dev nD) (t : Fin cfg0.N) : Vec F Rolled.S56x18x128 .f32 := iblk m c 2 t

/-- The proof data: the arrays as the region finds them; after the body each input at its block, each result at its
    function of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Rolled.yV (xB m c t) (wB m c t) (wsB m c t)
    | ⟨4, _⟩ => Rolled.codesV (xB m c t)
    | ⟨5, _⟩ => Rolled.scalesV (xB m c t)
  Φ t := carried (F := F) c t.val
  q _ := fullShare
  owed _ := 0

/-- The arrays are those that the call finds. -/
theorem A_eq (c : Dev nD) (w : Fin cfg0.W) : (dats m 0 c).A w = V m c (Pipeline.arrRef spec0 w) := by
  dsimp only [dats]

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = Rolled.yV (xB m c t) (wB m c t) (wsB m c t) := by dsimp only [dats]
/-- What the body leaves in window 4. -/
theorem after0_4 (c : Dev nD) (t : Fin cfg0.N) : (dats m 0 c).after 4 t = Rolled.codesV (xB m c t) := by dsimp only [dats]
/-- What the body leaves in window 5. -/
theorem after0_5 (c : Dev nD) (t : Fin cfg0.N) : (dats m 0 c).after 5 t = Rolled.scalesV (xB m c t) := by dsimp only [dats]

/-- What the body finds in window 0. -/
theorem before0_0 (c : Dev nD) (t : Fin cfg0.N) (d) : (dats m 0 c).before 0 t d = iblk m c 0 t :=
  before0_0_of m (dats m 0 c) (A_eq m c 0) (after0_0 m c) t d
/-- What the body finds in window 1. -/
theorem before0_1 (c : Dev nD) (t : Fin cfg0.N) (d) : (dats m 0 c).before 1 t d = iblk m c 1 t :=
  before0_1_of m (dats m 0 c) (A_eq m c 1) (after0_1 m c) t d
/-- What the body finds in window 2. -/
theorem before0_2 (c : Dev nD) (t : Fin cfg0.N) (d) : (dats m 0 c).before 2 t d = iblk m c 2 t :=
  before0_2_of m (dats m 0 c) (A_eq m c 2) (after0_2 m c) t d

/-! ## The body obligation -/

/-- What the body leaves at point `n`, from the input blocks. -/
def kernelPost (c : Dev nD) (t : Fin cfg0.N) (x0 : Vec F Rolled.S256x7168 .bf16) (x1 : Vec F Rolled.S28x2304x256 .fp8e4m3) (x2 : Vec F Rolled.S56x18x128 .f32)
    (n : Nat) : sProp 𝕄 :=
  iprop(carried (F := F) c (n + 1)
        ∗ owns (c : Thread nD τ) (bufs t).x fullShare x0 ∗ owns (c : Thread nD τ) (bufs t).wt fullShare x1 ∗ owns (c : Thread nD τ) (bufs t).wsb fullShare x2
        ∗ owns (c : Thread nD τ) (bufs t).y fullShare (Rolled.yV x0 x1 x2) ∗ owns (c : Thread nD τ) (bufs t).codes fullShare (Rolled.codesV x0)
        ∗ owns (c : Thread nD τ) (bufs t).scales fullShare (Rolled.scalesV x0))

/-- The body on its buffers, at the input blocks and what is carried. -/
theorem sound_kernel (c : Dev nD) (t : Fin cfg0.N) (x0 : Vec F Rolled.S256x7168 .bf16) (x1 : Vec F Rolled.S28x2304x256 .fp8e4m3) (x2 : Vec F Rolled.S56x18x128 .f32)
    (n : Nat) (hn : t.val = n) :
    iprop(carried (F := F) c n
        ∗ owns (c : Thread nD τ) (bufs t).x fullShare x0 ∗ owns (c : Thread nD τ) (bufs t).wt fullShare x1 ∗ owns (c : Thread nD τ) (bufs t).wsb fullShare x2
        ∗ (∃ d, owns (c : Thread nD τ) (bufs t).y fullShare d) ∗ (∃ d, owns (c : Thread nD τ) (bufs t).codes fullShare d) ∗ (∃ d, owns (c : Thread nD τ) (bufs t).scales fullShare d))
      ⊢ wp frame (wpE (defs₀ (F := F)) Variants.none c none) Set.univ (Rolled.body (bufs t) (first t)) (fun _ => kernelPost c t x0 x1 x2 n) := by
  iintro ⟨Hc, H0, H1, H2, ⟨%d3, H3⟩, ⟨%d4, H4⟩, ⟨%d5, H5⟩⟩
  unfold carried
  icases Hc with ⟨⟨%f0, %h0, S0⟩, ⟨%f1, S1⟩, ⟨%f2, S2⟩, ⟨%f3, S3⟩, ⟨%f4, S4⟩, Hr⟩
  have hb := Rolled.body_ok (τ := τ) (defs := defs₀ (F := F)) (𝒱 := Variants.none) (c := c) (E := Set.univ) (b := bufs t)
    (s := ⟨x0, x1, x2, d3, d4, d5, f0, f1, f2, f3, f4⟩) (first t)
    (fun hf => h0.resolve_left fun e => hf (first_zero t (hn.trans e)))
  unfold Rolled.T at hb
  have hw : iprop(Rolled.own (τ := τ) c (bufs t) ⟨x0, x1, x2, d3, d4, d5, f0, f1, f2, f3, f4⟩ ∗ ∃ r, prngReg c r)
      ⊢ wp frame (wpE (defs₀ (F := F)) Variants.none (c : Thread nD τ) none) Set.univ (Rolled.body (bufs t) (first t))
        (fun _ => kernelPost c t x0 x1 x2 n) := by
    refine BIBase.Entails.trans (BI.sep_mono hb (BI.Entails.refl _)) ((wp_frame_r frame (wpE (defs₀ (F := F)) Variants.none (c : Thread nD τ) none) Set.univ).trans
      (wp_mono frame (wpE (defs₀ (F := F)) Variants.none (c : Thread nD τ) none) Set.univ fun _ => ?_))
    unfold kernelPost carried
    iintro ⟨⟨%s', %hs, H⟩, Hr⟩
    obtain ⟨A, I, O, rfl⟩ := hs
    unfold Rolled.own
    icases H with ⟨H0, H1, H2, H3, H4, H5, S0, S1, S2, S3, S4⟩
    isplitl [S0 S1 S2 S3 S4 Hr]
    · isplitl [S0]
      · iexists _; isplitr
        swap; · iexact S0
        ipureintro; exact Or.inr (Rolled.clear_rhsV _)
      isplitl [S1]; · iexists _; iexact S1
      isplitl [S2]; · iexists _; iexact S2
      isplitl [S3]; · iexists _; iexact S3
      isplitl [S4]; · iexists _; iexact S4
      iexact Hr
    isplitl [H0]; · iexact H0
    isplitl [H1]; · iexact H1
    isplitl [H2]; · iexact H2
    isplitl [H3]; · iexact H3
    isplitl [H4]; · iexact H4
    iexact H5
  iapply hw
  unfold Rolled.own
  isplitr [Hr]
  swap; · iexact Hr
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  iexact S4

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at a point, from what it finds to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [bodyAt_eq]
  simp only [before0_0, before0_1, before0_2]
  rw [show (dats m 0 c).Φ t.succ = carried (F := F) c (t.val + 1) from rfl,
    show (dats m 0 c).Φ t.castSucc = carried (F := F) c t.val from rfl,
    show (dats m 0 c).owesAt () t.succ = (dats m 0 c).owesAt () t.castSucc from rfl,
    after0_0, after0_1, after0_2, after0_3, after0_4, after0_5]
  have hw : iprop((carried (F := F) c t.val
        ∗ owns (c : Thread nD τ) (bufs t).x fullShare (xB m c t) ∗ owns (c : Thread nD τ) (bufs t).wt fullShare (wB m c t) ∗ owns (c : Thread nD τ) (bufs t).wsb fullShare (wsB m c t)
        ∗ (∃ d, owns (c : Thread nD τ) (bufs t).y fullShare d) ∗ (∃ d, owns (c : Thread nD τ) (bufs t).codes fullShare d) ∗ (∃ d, owns (c : Thread nD τ) (bufs t).scales fullShare d))
        ∗ (dats m 0 c).owesAt () t.castSucc)
      ⊢ wp frame (wpE (defs₀ (F := F)) Variants.none (c : Thread nD τ) none) Set.univ (Rolled.body (bufs t) (first t))
        (fun _ => iprop(kernelPost c t (xB m c t) (wB m c t) (wsB m c t) t.val ∗ (dats m 0 c).owesAt () t.castSucc)) :=
    BIBase.Entails.trans (BI.sep_mono (sound_kernel c t (xB m c t) (wB m c t) (wsB m c t) t.val rfl) (BI.Entails.refl _))
      (wp_frame_r frame (wpE (defs₀ (F := F)) Variants.none (c : Thread nD τ) none) Set.univ)
  refine BIBase.Entails.trans ?_ (hw.trans (wp_mono frame (wpE (defs₀ (F := F)) Variants.none (c : Thread nD τ) none) Set.univ fun _ => ?_))
  · iintro ⟨HΦ, Ho, ⟨%d0, H0⟩, ⟨%d1, H1⟩, ⟨%d2, H2⟩, ⟨%d3, H3⟩, ⟨%d4, H4⟩, ⟨%d5, H5⟩⟩
    isplitr [Ho]
    swap; · iexact Ho
    isplitl [HΦ]; · iexact HΦ
    isplitl [H0]; · iexact H0
    isplitl [H1]; · iexact H1
    isplitl [H2]; · iexact H2
    isplitl [H3]; · iexists _; iexact H3
    isplitl [H4]; · iexists _; iexact H4
    iexists _; iexact H5
  · unfold kernelPost
    iintro ⟨⟨HΦ, H0, H1, H2, H3, H4, H5⟩, Ho⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body that the call runs at a point. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every weakly fair execution of the program terminates, the results at what the proof data says and every other
    unscoped buffer as the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_in c) (hout := fun c => carried_out c _)

/-- The run: every array is what the points leave in it. -/
theorem run_main : θ_run defs (onTc (τ := τ) (main (F := F))) (s₀ m ρ) (Pipeline.FramePost cfgs (dats m) 0 (V m)) :=
  (θ_run defs _ _).mono (fun _ h => h.1) (run_main_quiescent m ρ)

/-- The run leaves the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the program terminates, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Run

end

end
-- ==== Proof.Scale.lean ====
module

public import Idealize.ShloMosaic.Lib.Pointwise
public import proofs.«01_k».proof.Proof.Rolled

/-! The scale of a group, on both sides.

The kernel finds the biased exponent of a value `v` bit by bit: it keeps a bit if the power of two
that the bits so far name is at most `v`. The reference counts the powers of two at most `v`. Both are
the number of `k < 254` with `2 ^ (k - 126) ≤ v`, for `0 ≤ v < 2 ^ 126`. -/

@[expose] public section

noncomputable section

namespace Scale

open Idealize.ShloMosaic Rolled
open scoped BigOperators

/-- A power of two. -/
def pw (k : ℤ) : EReal := (((2 : ℝ) ^ k : ℝ) : EReal)

/-- A power of two is finite. -/
theorem pw_lt_top (k : ℤ) : pw k < ⊤ := EReal.coe_lt_top _

/-- Powers of two grow with the exponent. -/
theorem pw_le {a b : ℤ} (h : a ≤ b) : pw a ≤ pw b :=
  EReal.coe_le_coe_iff.2 (zpow_le_zpow_right₀ (by norm_num) h)

/-- How many of the powers `2 ^ -126`, …, `2 ^ 127` are at most `v`. -/
def count (v : EReal) : ℕ := (Finset.univ.filter fun k : Fin 254 => pw ((k.val : ℤ) - 126) ≤ v).card

/-- A set of the first numbers below `n`, closed downwards, is those below its size. -/
theorem lt_card_iff {n : ℕ} (p : Fin n → Prop) [DecidablePred p] (hp : ∀ i j, i ≤ j → p j → p i) (i : Fin n) :
    p i ↔ i.val < (Finset.univ.filter p).card := by
  constructor
  · intro h
    have hs : Finset.Iic i ⊆ Finset.univ.filter p := fun j hj =>
      Finset.mem_filter.2 ⟨Finset.mem_univ _, hp j i (Finset.mem_Iic.1 hj) h⟩
    have := Finset.card_le_card hs
    rw [Fin.card_Iic] at this
    omega
  · intro h
    by_contra hn
    have hs : Finset.univ.filter p ⊆ Finset.Iio i := fun j hj => by
      rw [Finset.mem_Iio]
      by_contra hj'
      exact hn (hp i j (not_lt.1 hj') (Finset.mem_filter.1 hj).2)
    have := Finset.card_le_card hs
    rw [Fin.card_Iio] at this
    omega

/-- The `k`-th power is at most `v` just when `k` is below the count. -/
theorem pw_le_iff (v : EReal) (k : Fin 254) : pw ((k.val : ℤ) - 126) ≤ v ↔ k.val < count v :=
  lt_card_iff (fun k : Fin 254 => pw ((k.val : ℤ) - 126) ≤ v)
    (fun i j hij h => le_trans (pw_le (by have : i.val ≤ j.val := hij; omega)) h) k

/-- Below `2 ^ 126` the count is at most 252. -/
theorem count_le (v : EReal) (h : v < pw 126) : count v ≤ 252 := by
  by_contra hc
  have := (pw_le_iff v ⟨252, by decide⟩).2 (by show 252 < _; omega)
  exact absurd this (not_le.2 h)

/-! ### A word with its exponent field only -/

/-- Sign, exponent and fraction of a word that has the exponent alone. -/
theorem fields : ∀ n : Fin 256, ((BitVec.ofNat 32 n.val <<< 23).extractLsb' 31 1 == 1#1) = false ∧
    ((BitVec.ofNat 32 n.val <<< 23).extractLsb' 23 8).toNat = n.val ∧ ((BitVec.ofNat 32 n.val <<< 23).extractLsb' 0 23).toNat = 0 := by
  decide +kernel

/-- Such a word is a power of two. -/
theorem ofBits_shl (n : ℕ) (h0 : 0 < n) (h : n < 255) : Ideal.ofBits .f32 (BitVec.ofNat 32 n <<< 23) = pw ((n : ℤ) - 127) := by
  obtain ⟨h1, h2, h3⟩ := fields ⟨n, by omega⟩
  simp only at h1 h2 h3
  unfold Ideal.ofBits Ideal.ieee
  simp only [Nat.reduceAdd, h1, h2, h3]
  rw [if_neg (by omega), if_neg (by omega)]
  unfold pw
  refine congrArg _ ?_
  rw [if_neg Bool.false_ne_true, one_mul, add_zero, Nat.cast_pow, Nat.cast_ofNat, ← zpow_natCast,
    ← zpow_add₀ (by norm_num : (2 : ℝ) ≠ 0)]
  refine congrArg _ ?_
  norm_num

/-- With the largest exponent it is infinity. -/
theorem ofBits_shl_top : Ideal.ofBits .f32 (BitVec.ofNat 32 255 <<< 23) = ⊤ := by
  obtain ⟨h1, h2, h3⟩ := fields ⟨255, by omega⟩
  simp only at h1 h2 h3
  unfold Ideal.ofBits Ideal.ieee
  simp only [Nat.reduceAdd, h1, h2, h3]
  simp

/-! ### The search -/

/-- One step of the search, on one value. -/
def step (v : EReal) (t e : BitVec 32) : BitVec 32 :=
  Scalar.select (Ideal.cmp .oge v (Ideal.ofBits .f32 (IntOp.shli .vector (e ||| t) 23#32))) (e ||| t) e

/-- One step of the search at an index. -/
theorem bit_at (v : FVec Ideal S256x56 .f32) (t : BitVec 32) (e : IVec S256x56 32) (i : S256x56.Idx) :
    bit v t e i = step (v i) t (e i) := rfl

/-- The same step against a number. -/
def stepN (n : ℕ) (t e : BitVec 32) : BitVec 32 := if (e ||| t).toNat ≤ n then e ||| t else e

/-- A step of the search stays below 256. -/
theorem stepN_lt (n : ℕ) (t e : BitVec 32) (ht : t.toNat < 256) (he : e.toNat < 256) : (stepN n t e).toNat < 256 := by
  unfold stepN
  split
  · rw [BitVec.toNat_or]; exact Nat.or_lt_two_pow (n := 8) he ht
  · exact he

/-- A comparison of values is a comparison with the count. -/
theorem step_eq (v : EReal) (hv : v < pw 126) (t e : BitVec 32) (ht0 : 0 < t.toNat) (ht : t.toNat < 256) (he : e.toNat < 256) :
    step v t e = stepN (count v) t e := by
  have hw : (e ||| t).toNat < 256 := by rw [BitVec.toNat_or]; exact Nat.or_lt_two_pow (n := 8) he ht
  have hw0 : 0 < (e ||| t).toNat := by
    rw [BitVec.toNat_or]; exact lt_of_lt_of_le ht0 Nat.right_le_or
  have hsh : IntOp.shli .vector (e ||| t) 23#32 = BitVec.ofNat 32 (e ||| t).toNat <<< 23 := by
    rw [BitVec.ofNat_toNat, BitVec.setWidth_eq]; rfl
  unfold step stepN
  rw [hsh]
  have key : Ideal.ofBits .f32 (BitVec.ofNat 32 (e ||| t).toNat <<< 23) ≤ v ↔ (e ||| t).toNat ≤ count v := by
    generalize (e ||| t).toNat = n at hw hw0
    have hc := count_le v hv
    by_cases h : n < 255
    · rw [ofBits_shl n hw0 h]
      have := pw_le_iff v ⟨n - 1, by omega⟩
      rw [show ((n : ℤ) - 127) = (((⟨n - 1, by omega⟩ : Fin 254).val : ℤ) - 126) from by show _ = ((n - 1 : ℕ) : ℤ) - 126; omega, this]
      show n - 1 < _ ↔ _
      omega
    · rw [show n = 255 from by omega, ofBits_shl_top]
      constructor
      · intro h; exact absurd (lt_of_le_of_lt h (lt_trans hv (pw_lt_top _))) (lt_irrefl _)
      · intro h; omega
  by_cases hle : (e ||| t).toNat ≤ count v
  · rw [if_pos hle]
    have : Ideal.cmp .oge v (Ideal.ofBits .f32 (BitVec.ofNat 32 (e ||| t).toNat <<< 23)) = 1#1 := by
      show BitVec.ofBool (decide _) = _
      rw [decide_eq_true (key.2 hle)]; rfl
    rw [this]; rfl
  · rw [if_neg hle]
    have : Ideal.cmp .oge v (Ideal.ofBits .f32 (BitVec.ofNat 32 (e ||| t).toNat <<< 23)) = 0#1 := by
      show BitVec.ofBool (decide _) = _
      rw [decide_eq_false (fun h => hle (key.1 h))]; rfl
    rw [this]; rfl

/-- All eight steps. -/
theorem search : ∀ n : Fin 253, stepN n.val 1#32 (stepN n.val 2#32 (stepN n.val 4#32 (stepN n.val 8#32 (stepN n.val 16#32
    (stepN n.val 32#32 (stepN n.val 64#32 (stepN n.val 128#32 0#32))))))) = BitVec.ofNat 32 n.val := by
  decide +kernel

/-- The search finds the count. -/
theorem biased_at (v : FVec Ideal S256x56 .f32) (i : S256x56.Idx) (hv : v i < pw 126) :
    biased v i = BitVec.ofNat 32 (count (v i)) := by
  unfold biased
  simp only [bit_at]
  have hz : (broadcast S256x56 0#32 : IVec S256x56 32) i = 0#32 := rfl
  rw [hz]
  have s (t e) (h0 : 0 < t.toNat) (ht : t.toNat < 256) (he) := step_eq (v i) hv t e h0 ht he
  have b0 : (0#32 : BitVec 32).toNat < 256 := by decide
  rw [s 128#32 _ (by decide) (by decide) b0]
  have b1 := stepN_lt (count (v i)) 128#32 _ (by decide) b0
  rw [s 64#32 _ (by decide) (by decide) b1]
  have b2 := stepN_lt (count (v i)) 64#32 _ (by decide) b1
  rw [s 32#32 _ (by decide) (by decide) b2]
  have b3 := stepN_lt (count (v i)) 32#32 _ (by decide) b2
  rw [s 16#32 _ (by decide) (by decide) b3]
  have b4 := stepN_lt (count (v i)) 16#32 _ (by decide) b3
  rw [s 8#32 _ (by decide) (by decide) b4]
  have b5 := stepN_lt (count (v i)) 8#32 _ (by decide) b4
  rw [s 4#32 _ (by decide) (by decide) b5]
  have b6 := stepN_lt (count (v i)) 4#32 _ (by decide) b5
  rw [s 2#32 _ (by decide) (by decide) b6]
  have b7 := stepN_lt (count (v i)) 2#32 _ (by decide) b6
  rw [s 1#32 _ (by decide) (by decide) b7]
  exact search ⟨count (v i), by have := count_le _ hv; omega⟩

/-- The scale of a count: a power of two, or one where nothing was counted. -/
def scale (n : ℕ) : EReal := if n = 0 then 1 else pw ((n : ℤ) - 126)

/-- Its reciprocal. -/
def inv (n : ℕ) : EReal := if n = 0 then 1 else pw (126 - (n : ℤ))

/-- The constant the maximum is multiplied by, 1/448 as the programs write it. -/
def c448 : EReal := Ideal.ofBits .f32 0x3B124925#32

/-- The test for a count of zero, as words. -/
theorem words : ∀ n : Fin 253,
    Scalar.select (IntOp.ori (IntOp.ori (IntOp.cmpi .eq (BitVec.ofNat 32 n.val) 0#32) (IntOp.cmpi .eq (BitVec.ofNat 32 n.val) 255#32)) 0#1)
      126#32 (BitVec.ofNat 32 n.val) = BitVec.ofNat 32 (if n.val = 0 then 126 else n.val) := by
  decide +kernel

/-- The exponent that the kernel goes on with. -/
theorem expo_at (a : FVec Ideal S256x56 .f32) (i : S256x56.Idx) (h : a i * c448 < pw 126) :
    expo a i = BitVec.ofNat 32 (if count (a i * c448) = 0 then 126 else count (a i * c448)) := by
  have hb : biased (mulf a (broadcast S256x56 (Scalar.ofBits .f32 0x3B124925#32))) i = BitVec.ofNat 32 (count (a i * c448)) :=
    biased_at _ i h
  have hc := count_le _ h
  show Scalar.select (IntOp.ori (IntOp.ori (IntOp.cmpi .eq (biased (mulf a (broadcast S256x56 (Scalar.ofBits .f32 0x3B124925#32))) i) 0#32)
    (IntOp.cmpi .eq (biased (mulf a (broadcast S256x56 (Scalar.ofBits .f32 0x3B124925#32))) i) 255#32))
    (Ideal.cmp .oeq (a i) (Ideal.ofBits .f32 0x00000000#32))) 126#32
    (biased (mulf a (broadcast S256x56 (Scalar.ofBits .f32 0x3B124925#32))) i) = _
  rw [hb]
  by_cases h0 : a i = 0
  · have hz : count (a i * c448) = 0 := by
      rw [h0, zero_mul]
      by_contra hne
      have := (pw_le_iff 0 ⟨0, by decide⟩).2 (by show 0 < _; omega)
      exact absurd this (not_le.2 (EReal.coe_pos.2 (by positivity)))
    rw [hz]
    have : Ideal.cmp .oeq (a i) (Ideal.ofBits .f32 0x00000000#32) = 1#1 := by
      show BitVec.ofBool (decide _) = _
      rw [decide_eq_true (by rw [h0, Ideal.ofBits_zero_f32])]; rfl
    rw [this]; decide
  · have : Ideal.cmp .oeq (a i) (Ideal.ofBits .f32 0x00000000#32) = 0#1 := by
      show BitVec.ofBool (decide _) = _
      rw [decide_eq_false (by rw [Ideal.ofBits_zero_f32]; exact h0)]; rfl
    rw [this]
    exact words ⟨count (a i * c448), by omega⟩

/-- The scale's word. -/
theorem scaleWord : ∀ n : Fin 253, IntOp.shli .vector (IntOp.addi (BitVec.ofNat 32 (if n.val = 0 then 126 else n.val)) 1#32) 23#32 =
    BitVec.ofNat 32 (if n.val = 0 then 127 else n.val + 1) <<< 23 := by
  decide +kernel

/-- The reciprocal's word. -/
theorem invWord : ∀ n : Fin 253, IntOp.shli .vector (IntOp.subi 253#32 (BitVec.ofNat 32 (if n.val = 0 then 126 else n.val))) 23#32 =
    BitVec.ofNat 32 (if n.val = 0 then 127 else 253 - n.val) <<< 23 := by
  decide +kernel

/-- The zeroth power is one. -/
theorem pw_zero : pw 0 = 1 := by unfold pw; rw [zpow_zero]; rfl

/-- The kernel's scale is the counted one. -/
theorem scaleOf_at (a : FVec Ideal S256x56 .f32) (i : S256x56.Idx) (h : a i * c448 < pw 126) :
    scaleOf a i = scale (count (a i * c448)) := by
  have hc := count_le _ h
  show Ideal.ofBits .f32 (IntOp.shli .vector (IntOp.addi (expo a i) 1#32) 23#32) = _
  rw [expo_at a i h]
  refine (congrArg (Ideal.ofBits .f32) (scaleWord ⟨count (a i * c448), by omega⟩)).trans ?_
  simp only
  unfold scale
  split
  · rw [ofBits_shl _ (by decide) (by decide)]; exact pw_zero
  · rw [ofBits_shl _ (by omega) (by omega)]; congr 1; push_cast; ring

/-- The kernel's reciprocal is the counted one. -/
theorem invOf_at (a : FVec Ideal S256x56 .f32) (i : S256x56.Idx) (h : a i * c448 < pw 126) :
    invOf a i = inv (count (a i * c448)) := by
  have hc := count_le _ h
  show Ideal.ofBits .f32 (IntOp.shli .vector (IntOp.subi 253#32 (expo a i)) 23#32) = _
  rw [expo_at a i h]
  refine (congrArg (Ideal.ofBits .f32) (invWord ⟨count (a i * c448), by omega⟩)).trans ?_
  simp only
  unfold inv
  split
  · rw [ofBits_shl _ (by decide) (by decide)]; exact pw_zero
  · rw [ofBits_shl _ (by omega) (by omega)]; congr 1; omega

/-! ### The reference's count -/

/-- The constant 126. -/
theorem ofBits_126 : Ideal.ofBits .f32 0x42FC0000#32 = ((126 : ℝ) : EReal) := by
  simp [Ideal.ofBits, Ideal.ieee]
  rw [← EReal.coe_mul]
  norm_num

/-- The power of a count, less 126. -/
theorem exp2_nat (n : ℕ) : Ideal.exp2 (((n : ℝ) : EReal) - Ideal.ofBits .f32 0x42FC0000#32) = pw ((n : ℤ) - 126) := by
  rw [ofBits_126, ← EReal.coe_sub, Ideal.exp2_coe]
  unfold pw
  congr 1
  show (2 : ℝ) ^ ((n : ℝ) - 126) = _
  rw [← Real.rpow_intCast]
  push_cast
  rfl

/-- The power of 126 less a count. -/
theorem exp2_neg (n : ℕ) : Ideal.exp2 (Ideal.ofBits .f32 0x42FC0000#32 - ((n : ℝ) : EReal)) = pw (126 - (n : ℤ)) := by
  rw [ofBits_126, ← EReal.coe_sub, Ideal.exp2_coe]
  unfold pw
  congr 1
  show (2 : ℝ) ^ (126 - (n : ℝ)) = _
  rw [← Real.rpow_intCast]
  push_cast
  rfl

/-- A sum of ones over the powers of two at most `v` is their count. -/
theorem sum_count (v : EReal) :
    (∑ k : Fin 254, Scalar.select (Ideal.cmp .oge v (pw ((k.val : ℤ) - 126))) (1 : EReal) 0) = ((count v : ℝ) : EReal) := by
  have h : ∀ k : Fin 254, Scalar.select (Ideal.cmp .oge v (pw ((k.val : ℤ) - 126))) (1 : EReal) 0
      = if pw ((k.val : ℤ) - 126) ≤ v then 1 else 0 := fun k => by
    by_cases hk : pw ((k.val : ℤ) - 126) ≤ v
    · rw [if_pos hk]
      have : Ideal.cmp .oge v (pw ((k.val : ℤ) - 126)) = 1#1 := by
        show BitVec.ofBool (decide _) = _
        rw [decide_eq_true hk]; rfl
      rw [this]; rfl
    · rw [if_neg hk]
      have : Ideal.cmp .oge v (pw ((k.val : ℤ) - 126)) = 0#1 := by
        show BitVec.ofBool (decide _) = _
        rw [decide_eq_false hk]; rfl
      rw [this]; rfl
  rw [Finset.sum_congr rfl fun k _ => h k, Finset.sum_ite, Finset.sum_const_zero, add_zero, Finset.sum_const, nsmul_one]
  rfl

/-- The reference's two selections of a count. -/
theorem select_scale (n : ℕ) :
    Scalar.select (Ideal.cmp .oeq ((n : ℝ) : EReal) 0) (1 : EReal) (Ideal.exp2 (((n : ℝ) : EReal) - Ideal.ofBits .f32 0x42FC0000#32))
      = scale n := by
  unfold scale
  by_cases h : n = 0
  · subst h; rw [if_pos rfl]
    have : Ideal.cmp .oeq (((0 : ℕ) : ℝ) : EReal) 0 = 1#1 := by
      show BitVec.ofBool (decide _) = _
      rw [decide_eq_true (by simp)]; rfl
    rw [this]; rfl
  · rw [if_neg h, exp2_nat]
    have : Ideal.cmp .oeq ((n : ℝ) : EReal) 0 = 0#1 := by
      show BitVec.ofBool (decide _) = _
      rw [decide_eq_false (by simpa using h)]; rfl
    rw [this]; rfl

/-- The reference's reciprocal from its count. -/
theorem select_inv (n : ℕ) :
    Scalar.select (Ideal.cmp .oeq ((n : ℝ) : EReal) 0) (1 : EReal) (Ideal.exp2 (Ideal.ofBits .f32 0x42FC0000#32 - ((n : ℝ) : EReal)))
      = inv n := by
  unfold inv
  by_cases h : n = 0
  · subst h; rw [if_pos rfl]
    have : Ideal.cmp .oeq (((0 : ℕ) : ℝ) : EReal) 0 = 1#1 := by
      show BitVec.ofBool (decide _) = _
      rw [decide_eq_true (by simp)]; rfl
    rw [this]; rfl
  · rw [if_neg h, exp2_neg]
    have : Ideal.cmp .oeq ((n : ℝ) : EReal) 0 = 0#1 := by
      show BitVec.ofBool (decide _) = _
      rw [decide_eq_false (by simpa using h)]; rfl
    rw [this]; rfl

end Scale
-- ==== Proof.KernelRead.lean ====
module

public import Idealize.ShloMosaic.Lib.Pointwise
public import proofs.«01_k».proof.Proof.Scale
public import proofs.«01_k».proof.Proof.Quantise

/-! The kernel's results on a block of 256 tokens, read at an index. -/

@[expose] public section

noncomputable section

namespace KRead

open Idealize.ShloMosaic
open Rolled hiding ix3 ix4
open scoped BigOperators

/-- Two ways of naming an index of a matrix. -/
theorem mix {m n : ℕ} (a : Fin m) (b : Fin n) : (Mxu.ix a b : (⟨2, ![m, n]⟩ : Shape).Idx) = ix2 a b := by
  funext d; apply Fin.ext
  match d with
  | ⟨0, _⟩ => rfl
  | ⟨1, _⟩ => rfl

/-- Two ways of naming an index of rank 3. -/
theorem rix3 {l m n : ℕ} (a : Fin l) (b : Fin m) (c : Fin n) : Rolled.ix3 a b c = ix3 a b c := by
  funext d; apply Fin.ext
  match d with
  | ⟨0, _⟩ => rfl
  | ⟨1, _⟩ => rfl
  | ⟨2, _⟩ => rfl

/-- Two ways of naming an index of rank 4. -/
theorem rix4 {k l m n : ℕ} (a : Fin k) (b : Fin l) (c : Fin m) (d : Fin n) : Rolled.ix4 a b c d = ix4 a b c d := by
  funext e; apply Fin.ext
  match e with
  | ⟨0, _⟩ => rfl
  | ⟨1, _⟩ => rfl
  | ⟨2, _⟩ => rfl
  | ⟨3, _⟩ => rfl

/-- The largest absolute value of a group of a row. -/
def amax (X : Vec Ideal S256x7168 .bf16) (r : Fin 256) (g : Fin 56) : EReal :=
  (Finset.univ : Finset (Fin 128)).fold max (Ideal.ofBits .f32 0xFF800000#32) fun k =>
    max (X (ix2 r ⟨g.val * 128 + k.val, by omega⟩)) (-(X (ix2 r ⟨g.val * 128 + k.val, by omega⟩)))

/-- The count of a group of a row. -/
def cnt (X : Vec Ideal S256x7168 .bf16) (r : Fin 256) (g : Fin 56) : ℕ := Scale.count (amax X r g * Scale.c448)

/-- A code. -/
def code (X : Vec Ideal S256x7168 .bf16) (r : Fin 256) (g : Fin 56) (k : Fin 128) : EReal :=
  min (Ideal.ofBits .f32 0x43E00000#32) (max (Ideal.ofBits .f32 0xC3E00000#32)
    (X (ix2 r ⟨g.val * 128 + k.val, by omega⟩) * Scale.inv (cnt X r g)))

/-- A group of the rows at an index. -/
theorem xG_at (X : Vec Ideal S256x7168 .bf16) (g : Fin 56) (r : Fin 256) (k : Fin 128) :
    xG X g (ix2 r k) = X (ix2 r ⟨g.val * 128 + k.val, by omega⟩) := by
  unfold xG xRect
  pointwise
  exact congrArg X (congrArg (ix2 r) (Fin.ext (by show 128 * g.val + k.val = g.val * 128 + k.val; omega)))

/-- A row's maximum at an index. -/
theorem rowMax_at (v : Vec Ideal S256x128 .bf16) (r : Fin 256) :
    rowMax v (ix2 r 0) = (Finset.univ : Finset (Fin 128)).fold max (Ideal.ofBits .f32 0xFF800000#32) fun k =>
      max (v (ix2 r k)) (-(v (ix2 r k))) := by
  unfold rowMax
  pointwise
  rfl

/-- A code at an index. -/
theorem codeOf_at (v : Vec Ideal S256x128 .bf16) (i : Vec Ideal S256x1 .f32) (r : Fin 256) (k : Fin 128) :
    codeOf v i (ix2 r k) = min (Ideal.ofBits .f32 0x43E00000#32) (max (Ideal.ofBits .f32 0xC3E00000#32)
    (v (ix2 r k) * i (ix2 r 0))) := by
  unfold codeOf
  pointwise

/-- One unit's block of codes at an index. -/
theorem blockOf_at (v : FVec Ideal S256x128 .fp8e4m3) (j : Fin 2) (b k : Fin 128) :
    blockOf v j (ix4 0 0 b k) = v (ix2 ⟨128 * j.val + b.val, by omega⟩ k) := by
  unfold blockOf
  pointwise

/-- A combined scale at an index. -/
theorem srowVal_at (t : FVec Ideal S56x256 .f32) (g : Fin 56) (j : Fin 2) (w : Vec Ideal S1x18x128 .f32) (c : Fin 18) (b : Fin 128) :
    srowVal t g j w (ix3 0 c b) = w (ix3 0 c b) * t (ix2 g ⟨128 * j.val + b.val, by omega⟩) := by
  unfold srowVal
  pointwise

/-- The update of a chunk at an index: both halves of a product, scaled and added. -/
theorem updOf_at (v : FVec Ideal S128x256 .f32) (s₀ s₁ : Vec Ideal S1x1x128 .f32) (a b : Fin 128) :
    updOf v s₀ s₁ (ix2 a b) = v (ix2 a ⟨b.val, by omega⟩) * s₀ (ix3 0 0 b) + v (ix2 a ⟨128 + b.val, by omega⟩) * s₁ (ix3 0 0 b) := by
  unfold updOf
  pointwise

/-- A chunk of the weights at an index. -/
theorem wV_at (wt : Vec Ideal S28x2304x256 .fp8e4m3) (p : Fin 28) (c : Fin 18) (a : Fin 128) (k : Fin 256) :
    wV wt (18 * p.val + c.val) (ix2 a k) = wt (ix3 p ⟨128 * c.val + a.val, by omega⟩ k) := by
  unfold wV
  pointwise
  refine congrArg wt (funext fun d => Fin.ext ?_)
  match d with
  | ⟨0, _⟩ => show (18 * p.val + c.val) / 18 % 28 = p.val; omega
  | ⟨1, _⟩ => show 128 * ((18 * p.val + c.val) % 18) + a.val = 128 * c.val + a.val; omega
  | ⟨2, _⟩ => show 0 + k.val = k.val; omega

/-- A pair's tile at an index. -/
theorem tile_at (rhs : Vec Ideal S28x2x256x256 .fp8e4m3) (j : Fin 2) (p : Fin 28) (q k : Fin 256) :
    tile rhs j p.val (ix2 q k) = rhs (ix4 p j q k) := by
  unfold tile
  pointwise
  refine congrArg rhs (funext fun d => Fin.ext ?_)
  match d with
  | ⟨0, _⟩ => show p.val % 28 = p.val; omega
  | ⟨1, _⟩ => rfl
  | ⟨2, _⟩ => show 0 + q.val = q.val; omega
  | ⟨3, _⟩ => show 0 + k.val = k.val; omega

/-- A group's scales of the weights at an index. -/
theorem ws_at (W : Vec Ideal S56x18x128 .f32) (g : Fin 56) (c : Fin 18) (b : Fin 128) :
    View.ld W (wsRect g) (ix3 0 c b) = W (ix3 g c b) := by
  unfold wsRect
  pointwise

/-- A chunk's combined scales at an index. -/
theorem srow_at (S : Vec Ideal S56x18x256 .f32) (p : Fin 28) (c : Fin 18) (h j : Fin 2) (b : Fin 128) :
    View.ld S (Rect.unit (s := S56x18x256) (sOff (18 * p.val + c.val) h j) S1x1x128.size (sOff_inb (18 * p.val + c.val) h j)) (ix3 0 0 b)
      = S (ix3 ⟨2 * p.val + h.val, by omega⟩ c ⟨128 * j.val + b.val, by omega⟩) := by
  pointwise
  refine congrArg S (funext fun d => Fin.ext ?_)
  match d with
  | ⟨0, _⟩ => show 2 * ((18 * p.val + c.val) / 18 % 28) + h.val = 2 * p.val + h.val; omega
  | ⟨1, _⟩ => show (18 * p.val + c.val) % 18 = c.val; omega
  | ⟨2, _⟩ => rfl

/-! ### Maxima, scales, codes -/

/-- The maxima at an index. -/
theorem amaxV_at (X : Vec Ideal S256x7168 .bf16) (r : Fin 256) (g : Fin 56) : amaxV X (ix2 r g) = amax X r g := by
  show rowMax (xG X g) (Mxu.ix r 0) = _
  rw [mix, rowMax_at]
  unfold amax
  refine Finset.fold_congr fun k _ => ?_
  rw [xG_at]

/-- No group's maximum is out of the search's range. -/
def Bounded (X : Vec Ideal S256x7168 .bf16) : Prop := ∀ r g, amax X r g * Scale.c448 < Scale.pw 126

variable {X : Vec Ideal S256x7168 .bf16} (hX : Bounded X)
include hX

/-- The scales at an index. -/
theorem scalesV_at (r : Fin 256) (g : Fin 56) : scalesV X (ix2 r g) = Scale.scale (cnt X r g) := by
  have h := amaxV_at X r g
  unfold scalesV
  rw [Scale.scaleOf_at _ _ (by rw [h]; exact hX r g), h]
  rfl

/-- The reciprocals at an index. -/
theorem invCol_at (r : Fin 256) (g : Fin 56) : invCol X g (ix2 r 0) = Scale.inv (cnt X r g) := by
  have h := amaxV_at X r g
  show invOf (amaxV X) (Mxu.ix r g) = _
  rw [mix, Scale.invOf_at _ _ (by rw [h]; exact hX r g), h]
  rfl

/-- A group's codes at an index. -/
theorem codeG_at (r : Fin 256) (g : Fin 56) (k : Fin 128) : codeG X g (ix2 r k) = code X r g k := by
  unfold codeG code
  rw [codeOf_at, xG_at, invCol_at hX]

/-- The codes at an index. -/
theorem codesV_at (r : Fin 256) (d : Fin 7168) : codesV X (ix2 r d) = code X r ⟨d.val / 128, by omega⟩ ⟨d.val % 128, by omega⟩ := by
  rw [← codeG_at hX, ← mix]
  rfl

/-! ### The tiles and the rows of scales -/

/-- Row `128 h + b` of a pair's tile has group `2 p + h`'s codes of token `b` of the half. -/
theorem rhsV_at (p : Fin 28) (j h : Fin 2) (b k : Fin 128) :
    rhsV X zeroR (ix4 p j ⟨128 * h.val + b.val, by omega⟩ ⟨128 * h.val + k.val, by omega⟩)
      = code X ⟨128 * j.val + b.val, by omega⟩ ⟨2 * p.val + h.val, by omega⟩ k := by
  have e1 : (128 * h.val + b.val) / 128 = h.val := by omega
  have e2 : (128 * h.val + b.val) % 128 = b.val := by omega
  have e3 : (128 * h.val + k.val) / 128 = h.val := by omega
  have e4 : (128 * h.val + k.val) % 128 = k.val := by omega
  have hb := blockOf_at (codeG X ⟨2 * p.val + h.val, by omega⟩) j b k
  rw [← codeG_at hX, ← hb]
  show (if (128 * h.val + b.val) / 128 = (128 * h.val + k.val) / 128 then _ else _) = _
  rw [if_pos (by rw [e1, e3])]
  show blockOf (codeG X ⟨2 * p.val + (128 * h.val + b.val) / 128, _⟩) j
    (Rolled.ix4 0 0 ⟨(128 * h.val + b.val) % 128, _⟩ ⟨(128 * h.val + k.val) % 128, _⟩) = _
  simp only [e1, e2, e4, Fin.eta, rix4]

omit hX in
/-- Off its diagonal blocks it is zero. -/
theorem rhsV_off (p : Fin 28) (j : Fin 2) (q k : Fin 256) (h : q.val / 128 ≠ k.val / 128) :
    rhsV X zeroR (ix4 p j q k) = 0 := by
  show (if q.val / 128 = k.val / 128 then _ else _) = _
  rw [if_neg h]
  show Ideal.ofBits .fp8e4m3 0x00#8 = 0
  exact Ideal.ofBits_zero .fp8e4m3

/-- The combined scales at an index. -/
theorem srowV_at (W : Vec Ideal S56x18x128 .f32) (g : Fin 56) (c : Fin 18) (j : Fin 2) (b : Fin 128) :
    srowV (tScales X) W (ix3 g c ⟨128 * j.val + b.val, by omega⟩) = W (ix3 g c b) * Scale.scale (cnt X ⟨128 * j.val + b.val, by omega⟩ g) := by
  have e1 : (128 * j.val + b.val) / 128 = j.val := by omega
  have e2 : (128 * j.val + b.val) % 128 = b.val := by omega
  show srowVal (tScales X) g ⟨(128 * j.val + b.val) / 128, _⟩ (View.ld W (wsRect g)) (Rolled.ix3 0 c ⟨(128 * j.val + b.val) % 128, _⟩) = _
  simp only [e1, e2, Fin.eta]
  rw [rix3, srowVal_at, ws_at, ← scalesV_at hX]
  congr 1

/-! ### The products -/

omit hX in
/-- One unit's product at an index. -/
theorem matmul_at (l : FVec Ideal S128x256 .bf16) (t : FVec Ideal S256x256 .bf16) (a : Fin 128) (q : Fin 256) :
    FloatOps.matmul (DotDims.transposedRhs 128 256 256) none l t (fun _ => (0 : EReal)) (ix2 a q) = ∑ k : Fin 256, l (ix2 a k) * t (ix2 q k) := by
  pointwise

omit hX in
/-- The transposed sums at an index. -/
theorem transpose_at (v : FVec Ideal S2304x256 .f32) (h : S2304x256.Transposes [1, 0] S256x2304) (r : Fin 256) (o : Fin 2304) :
    transpose S256x2304 [1, 0] v h (ix2 r o) = v (ix2 o r) := by
  pointwise

omit hX in
/-- A chunk's product at an index. -/
theorem prod_at (wt : Vec Ideal S28x2304x256 .fp8e4m3) (R : Vec Ideal S28x2x256x256 .fp8e4m3) (p : Fin 28) (c : Fin 18) (j : Fin 2) (a : Fin 128) (q : Fin 256) :
    prod wt R j (18 * p.val + c.val) (ix2 a q)
      = ∑ k : Fin 256, wt (ix3 p ⟨128 * c.val + a.val, by omega⟩ k) * R (ix4 p j q k) := by
  have e : (18 * p.val + c.val) / 18 = p.val := by omega
  have h := matmul_at (wV wt (18 * p.val + c.val)) (tile R j p.val) a q
  unfold prod
  rw [e]
  refine Eq.trans ?_ (h.trans (Finset.sum_congr rfl fun k _ => ?_))
  · show Ideal.mxuPass _ _ _ _ = Ideal.matmul _ _ _ _ _
    unfold Ideal.mxuPass Ideal.matmul
    rw [zero_add]
  · exact congrArg₂ (· * ·) (wV_at wt p c a k) (tile_at R j p q k)

omit hX in
/-- The half of a sum that is not zero. -/
theorem sum_half (f : Fin 256 → EReal) (h : Fin 2) (hf : ∀ k, k.val / 128 ≠ h.val → f k = 0) :
    ∑ k, f k = ∑ k : Fin 128, f ⟨128 * h.val + k.val, by omega⟩ := by
  refine (Finset.sum_of_injOn (fun k : Fin 128 => (⟨128 * h.val + k.val, by omega⟩ : Fin 256)) ?_ ?_ ?_ ?_).symm
  · intro a _ b _ e
    have := congrArg Fin.val e
    simp only at this
    exact Fin.ext (by omega)
  · intro _ _; exact Finset.mem_coe.2 (Finset.mem_univ _)
  · intro k _ hk
    apply hf
    intro e
    apply hk
    exact ⟨⟨k.val % 128, by omega⟩, by simp, Fin.ext (by show 128 * h.val + k.val % 128 = k.val; omega)⟩
  · intro _ _; rfl

/-- Group `2 p + h`'s contribution to a row of the product. -/
theorem prod_half (wt : Vec Ideal S28x2304x256 .fp8e4m3) (p : Fin 28) (c : Fin 18) (j h : Fin 2) (a b : Fin 128) :
    prod wt (rhsV X zeroR) j (18 * p.val + c.val) (ix2 a ⟨128 * h.val + b.val, by omega⟩)
      = ∑ k : Fin 128, wt (ix3 p ⟨128 * c.val + a.val, by omega⟩ ⟨128 * h.val + k.val, by omega⟩)
          * code X ⟨128 * j.val + b.val, by omega⟩ ⟨2 * p.val + h.val, by omega⟩ k := by
  rw [prod_at, sum_half _ h]
  · exact Finset.sum_congr rfl fun k _ => by rw [rhsV_at hX]
  · intro k hk
    rw [rhsV_off p j _ k (by show (128 * h.val + b.val) / 128 ≠ _; omega), mul_zero]

omit hX in
/-- One group's term of the result: its codes times its weights, times both scales. -/
def term (X : Vec Ideal S256x7168 .bf16) (wt : Vec Ideal S28x2304x256 .fp8e4m3) (W : Vec Ideal S56x18x128 .f32) (r : Fin 256) (o : Fin 2304)
    (p : Fin 28) (h : Fin 2) : EReal :=
  (∑ k : Fin 128, wt (ix3 p o ⟨128 * h.val + k.val, by omega⟩) * code X r ⟨2 * p.val + h.val, by omega⟩ k)
    * (W (ix3 ⟨2 * p.val + h.val, by omega⟩ ⟨o.val / 128, by omega⟩ ⟨r.val % 128, by omega⟩) * Scale.scale (cnt X r ⟨2 * p.val + h.val, by omega⟩))

/-- A chunk's update at an index. -/
theorem chunk_at (wt : Vec Ideal S28x2304x256 .fp8e4m3) (W : Vec Ideal S56x18x128 .f32) (r : Fin 256) (o : Fin 2304) (p : Fin 28) :
    chunk wt (rhsV X zeroR) (srowV (tScales X) W) ⟨r.val / 128, by omega⟩ (18 * p.val + o.val / 128)
        (ix2 ⟨o.val % 128, by omega⟩ ⟨r.val % 128, by omega⟩)
      = term X wt W r o p 0 + term X wt W r o p 1 := by
  have hr : (⟨128 * (r.val / 128) + r.val % 128, by omega⟩ : Fin 256) = r := Fin.ext (by show 128 * (r.val / 128) + r.val % 128 = r.val; omega)
  have ho : (⟨128 * (o.val / 128) + o.val % 128, by omega⟩ : Fin 2304) = o := Fin.ext (by show 128 * (o.val / 128) + o.val % 128 = o.val; omega)
  have key (h : Fin 2) :
      prod wt (rhsV X zeroR) ⟨r.val / 128, by omega⟩ (18 * p.val + o.val / 128) (ix2 ⟨o.val % 128, by omega⟩ ⟨128 * h.val + r.val % 128, by omega⟩)
        * View.ld (srowV (tScales X) W) (Rect.unit (s := S56x18x256) (sOff (18 * p.val + o.val / 128) h ⟨r.val / 128, by omega⟩) S1x1x128.size
          (sOff_inb (18 * p.val + o.val / 128) h ⟨r.val / 128, by omega⟩)) (ix3 0 0 ⟨r.val % 128, by omega⟩)
      = term X wt W r o p h := by
    have h1 := prod_half hX wt p ⟨o.val / 128, by omega⟩ ⟨r.val / 128, by omega⟩ h ⟨o.val % 128, by omega⟩ ⟨r.val % 128, by omega⟩
    have h2 := srow_at (srowV (tScales X) W) p ⟨o.val / 128, by omega⟩ h ⟨r.val / 128, by omega⟩ ⟨r.val % 128, by omega⟩
    rw [srowV_at hX] at h2
    simp only [hr, ho] at h1 h2
    unfold term
    rw [h1, h2]
  unfold chunk
  rw [updOf_at, ← key 0, ← key 1]
  congr 3
  · exact congrArg (ix2 _) (Fin.ext (by show r.val % 128 = 128 * 0 + r.val % 128; omega))

omit hX in
/-- The sums after some of the pairs, at an index. -/
theorem sumTo_at (u : Nat → FVec Ideal S128x128 .f32) (n : ℕ) (i : S128x128.Idx) : sumTo u n i = ∑ p ∈ Finset.range (n + 1), u p i := by
  induction n with
  | zero => rw [Finset.sum_range_one]; rfl
  | succ n ih => rw [Finset.sum_range_succ, ← ih]; rfl

/-- The output: the sum of the groups' terms. -/
theorem yV_at (wt : Vec Ideal S28x2304x256 .fp8e4m3) (W : Vec Ideal S56x18x128 .f32) (r : Fin 256) (o : Fin 2304) :
    yV X wt W (ix2 r o) = ∑ p : Fin 28, (term X wt W r o p 0 + term X wt W r o p 1) := by
  show transpose S256x2304 [1, 0] (outOf wt (rhsV X zeroR) (srowV (tScales X) W)) _ (ix2 r o) = _
  rw [transpose_at]
  show sumTo (fun p => chunk wt (rhsV X zeroR) (srowV (tScales X) W) ⟨r.val / 128, _⟩ (18 * p + o.val / 128)) 27
    (Mxu.ix ⟨o.val % 128, _⟩ ⟨r.val % 128, _⟩) = _
  rw [sumTo_at, Finset.sum_range, mix]
  exact Finset.sum_congr rfl fun p _ => chunk_at hX wt W r o p

omit hX in
/-- The same sum over the groups. -/
theorem sum_groups (f : Fin 56 → EReal) : ∑ p : Fin 28, (f ⟨2 * p.val + 0, by omega⟩ + f ⟨2 * p.val + 1, by omega⟩) = ∑ g, f g := by
  rw [← Equiv.sum_comp (finProdFinEquiv (m := 28) (n := 2)) f, Fintype.sum_prod_type]
  refine Finset.sum_congr rfl fun p _ => ?_
  rw [Fin.sum_univ_two]
  refine congrArg₂ (· + ·) (congrArg f (Fin.ext ?_)) (congrArg f (Fin.ext ?_))
  · show 2 * p.val + 0 = 0 + 2 * p.val; omega
  · show 2 * p.val + 1 = 1 + 2 * p.val; omega

end KRead
-- ==== Proof.RefValue.lean ====
module

public import Idealize.ShloMosaic.Lib.Pointwise
public import proofs.«01_k».proof.Proof.Gen.ReferenceIdeal.Skeleton
public import proofs.«01_k».proof.Proof.Scale

/-! The reference's results read at an index. -/

@[expose] public section

noncomputable section

namespace Cert.ReferenceIdeal.Read

open Idealize.ShloMosaic Cert.ReferenceIdeal Cert.ReferenceIdeal.Gen

open scoped BigOperators

/-! ### Any number of rows -/

section
variable {n : ℕ}

/-- The row maxima times the constant. -/
theorem top_rows (v : FVec Ideal ⟨3, ![n, 56, 128]⟩ .f32) (h : (⟨3, ![n, 56, 128]⟩ : Shape).Reduces [2] ⟨2, ![n, 56]⟩) (hφ hacc)
    (t : Fin n) (g : Fin 56) :
    mulf (multiReduction .maximumf [2] ⟨2, ![n, 56]⟩ (absf v) 0xFF800000#32 h hφ hacc) (broadcast ⟨2, ![n, 56]⟩ (Scalar.ofBits .f32 0x3B124925#32)) (ix2 t g)
      = ((Finset.univ : Finset (Fin 128)).fold max (Ideal.ofBits .f32 0xFF800000#32) fun k => max (v (ix3 t g k)) (-(v (ix3 t g k)))) * Scale.c448 := by
  refine congrArg (· * Scale.c448) ?_
  rw [multiReduction_maximumf_eq_fold, Shape.Reduces.fold_fiber_r3_a2]
  rfl

/-- The number of powers of two at most a value. -/
theorem count_rows (u : FVec Ideal ⟨3, ![n, 56, 254]⟩ .f32) (h : (⟨3, ![n, 56, 254]⟩ : Shape).Reduces [2] ⟨2, ![n, 56]⟩)
    (hi : (⟨3, ![n, 56, 254]⟩ : Shape).Iotas .tc 32 [2]) (hφ hacc) (t : Fin n) (g : Fin 56) (a : EReal) (hu : ∀ k, u (ix3 t g k) = a) :
    (multiReduction (F := Ideal) (φ := .f32) .add [2] ⟨2, ![n, 56]⟩ (select
      (cmpf .oge u (exp2 (subf (sitofp .f32 (iota .tc ⟨3, ![n, 56, 254]⟩ 32 [2] hi)) (broadcast ⟨3, ![n, 56, 254]⟩ (Scalar.ofBits .f32 0x42FC0000#32)))))
      (broadcast ⟨3, ![n, 56, 254]⟩ (Scalar.ofBits .f32 0x3F800000#32)) (broadcast ⟨3, ![n, 56, 254]⟩ (Scalar.ofBits .f32 0x00000000#32)))
      0x00000000#32 h hφ hacc : FVec Ideal ⟨2, ![n, 56]⟩ .f32) (ix2 t g) = ((Scale.count a : ℝ) : EReal) := by
  rw [multiReduction_add_apply, Ideal.reduceAdd_def, Ideal.reduceAdd_r3_a2, ← Scale.sum_count]
  refine Finset.sum_congr rfl fun k _ => ?_
  have e : iota .tc ⟨3, ![n, 56, 254]⟩ 32 [2] hi (ix3 t g k) = BitVec.ofNat 32 k.val := by
    rw [iota_apply]
    show BitVec.ofNat 32 (0 * _ + k.val) = _
    rw [Nat.zero_mul, Nat.zero_add]
  have h1 : Ideal.exp2 (((((iota .tc ⟨3, ![n, 56, 254]⟩ 32 [2] hi (ix3 t g k)).toInt : ℝ)) : EReal) - Ideal.ofBits .f32 0x42FC0000#32)
      = Scale.pw ((k.val : ℤ) - 126) := by
    rw [e, ← Scale.exp2_nat]
    have : (BitVec.ofNat 32 k.val).toInt = (k.val : ℤ) := by
      rw [BitVec.toInt_ofNat']; have := k.isLt; simp only [Int.bmod_def]; omega
    rw [this]; rfl
  rw [← h1, ← hu k, ← Ideal.ofBits_one_f32, ← Ideal.ofBits_zero_f32]
  rfl

variable {s : Shape}

/-- A power of two of a count. -/
theorem scale_lanes (p : FVec Ideal s .f32) (i : s.Idx) (n : ℕ) (h : p i = ((n : ℝ) : EReal)) :
    select (cmpf .oeq p (broadcast s (Scalar.ofBits .f32 0x00000000#32))) (broadcast s (Scalar.ofBits .f32 0x3F800000#32))
      (exp2 (subf p (broadcast s (Scalar.ofBits .f32 0x42FC0000#32)))) i = Scale.scale n := by
  rw [← Scale.select_scale, ← h, ← Ideal.ofBits_one_f32, ← Ideal.ofBits_zero_f32]
  rfl

/-- Its reciprocal. -/
theorem inv_lanes (p : FVec Ideal s .f32) (i : s.Idx) (n : ℕ) (h : p i = ((n : ℝ) : EReal)) :
    select (cmpf .oeq p (broadcast s (Scalar.ofBits .f32 0x00000000#32))) (broadcast s (Scalar.ofBits .f32 0x3F800000#32))
      (exp2 (subf (broadcast s (Scalar.ofBits .f32 0x42FC0000#32)) p)) i = Scale.inv n := by
  rw [← Scale.select_inv, ← h, ← Ideal.ofBits_one_f32, ← Ideal.ofBits_zero_f32]
  rfl

/-- A clamped product. -/
theorem clip_lanes (x y : FVec Ideal s .f32) (h : FTy.fp8e4m3.bits < FTy.f32.bits) (i : s.Idx) :
    truncf .fp8e4m3 (minimumf (broadcast s (Scalar.ofBits .f32 0x43E00000#32)) (maximumf (broadcast s (Scalar.ofBits .f32 0xC3E00000#32)) (mulf x y))) h i
      = min (Ideal.ofBits .f32 0x43E00000#32) (max (Ideal.ofBits .f32 0xC3E00000#32) (x i * y i)) := rfl

end

/-! ### The reference's rows -/

/-- The rows by groups. -/
theorem pay3_at (X : Vec Ideal S32768x7168 .bf16) (t : Fin 32768) (g : Fin 56) (k : Fin 128) :
    k0_pay3 (F := Ideal) X (ix3 t g k) = X (ix2 t ⟨g.val * 128 + k.val, by omega⟩) := by
  pointwise [k0_pay3]

/-- The largest absolute value of a group of a row. -/
def amax (X : Vec Ideal S32768x7168 .bf16) (t : Fin 32768) (g : Fin 56) : EReal :=
  (Finset.univ : Finset (Fin 128)).fold max (Ideal.ofBits .f32 0xFF800000#32) fun k =>
    max (X (ix2 t ⟨g.val * 128 + k.val, by omega⟩)) (-(X (ix2 t ⟨g.val * 128 + k.val, by omega⟩)))

/-- The count of a group of a row. -/
def cnt (X : Vec Ideal S32768x7168 .bf16) (t : Fin 32768) (g : Fin 56) : ℕ := Scale.count (amax X t g * Scale.c448)

/-- A code. -/
def code (X : Vec Ideal S32768x7168 .bf16) (t : Fin 32768) (g : Fin 56) (k : Fin 128) : EReal :=
  min (Ideal.ofBits .f32 0x43E00000#32) (max (Ideal.ofBits .f32 0xC3E00000#32)
    (X (ix2 t ⟨g.val * 128 + k.val, by omega⟩) * Scale.inv (cnt X t g)))

/-- A value of each group, spread over the powers of two. -/
theorem spread_at (v : FVec Ideal S32768x56 .f32) (t : Fin 32768) (g : Fin 56) (k : Fin 254) :
    broadcastTo S32768x56x254 (shapeCast S32768x56x1 v shapeCasts_S32768x56_S32768x56x1) broadcasts_S32768x56x1_S32768x56x254 (ix3 t g k)
      = v (ix2 t g) := by
  pointwise

/-- A value of each group, spread over its columns. -/
theorem spread128_at (v : FVec Ideal S32768x56 .f32) (t : Fin 32768) (g : Fin 56) (k : Fin 128) :
    broadcastTo S32768x56x128 (shapeCast S32768x56x1 v shapeCasts_S32768x56_S32768x56x1) broadcasts_S32768x56x1_S32768x56x128 (ix3 t g k)
      = v (ix2 t g) := by
  pointwise

/-- The count of powers of two. -/
theorem pay4_at (X : Vec Ideal S32768x7168 .bf16) (t : Fin 32768) (g : Fin 56) :
    k0_pay4 (F := Ideal) X (ix2 t g) = ((cnt X t g : ℝ) : EReal) := by
  unfold k0_pay4
  refine count_rows (n := 32768) _ reduces_S32768x56x254_S32768x56 iota_S32768x56x254_d2_w32 (.inl rfl) rfl t g _ fun k => ?_
  refine (spread_at _ t g k).trans ((top_rows (n := 32768) (k0_pay3 X) _ _ _ t g).trans ?_)
  unfold amax
  simp only [pay3_at]

/-- The scales. -/
theorem pay5_at (X : Vec Ideal S32768x7168 .bf16) (t : Fin 32768) (g : Fin 56) :
    k0_pay5 (F := Ideal) X (ix2 t g) = Scale.scale (cnt X t g) := by
  unfold k0_pay5
  exact scale_lanes _ _ _ (pay4_at X t g)

/-- The codes by groups. -/
theorem pay6_at (X : Vec Ideal S32768x7168 .bf16) (t : Fin 32768) (g : Fin 56) (k : Fin 128) :
    k0_pay6 (F := Ideal) X (ix3 t g k) = code X t g k := by
  unfold k0_pay6
  refine (clip_lanes _ _ bitsLt_fp8e4m3_f32 (ix3 t g k)).trans ?_
  rw [spread128_at, pay3_at, inv_lanes _ _ _ (pay4_at X t g)]
  rfl

/-- The codes, flattened. -/
theorem pay2_at (c : FVec Ideal S32768x56x128 .fp8e4m3) (t : Fin 32768) (d : Fin 7168) :
    k0_pay2 (F := Ideal) c (ix2 t d) = c (ix3 t ⟨d.val / 128, by omega⟩ ⟨d.val % 128, by omega⟩) := by
  pointwise [k0_pay2]

end Cert.ReferenceIdeal.Read
-- ==== Proof.RefSum.lean ====
module

public import Idealize.ShloMosaic.Lib.Pointwise
public import proofs.«01_k».proof.Proof.Gen.ReferenceIdeal.Skeleton
public import proofs.«01_k».proof.Proof.Scale

/-! The reference's results read at an index. -/

@[expose] public section

noncomputable section

namespace Cert.ReferenceIdeal.Read

open Idealize.ShloMosaic Cert.ReferenceIdeal Cert.ReferenceIdeal.Gen

/-- The product at an index, from the scales and the codes: a sum over the groups. -/
theorem pay1_at (s : FVec Ideal S32768x56 .f32) (c : FVec Ideal S32768x56x128 .fp8e4m3) (w : Vec Ideal S7168x2304 .fp8e4m3) (ws : Vec Ideal S56x18 .f32)
    (t : Fin 32768) (o : Fin 2304) :
    k0_pay1 (F := Ideal) s c w ws (ix2 t o) = ∑ g : Fin 56, (∑ k : Fin 128, c (ix3 t g k) * w (ix2 ⟨g.val * 128 + k.val, by omega⟩ o)) * s (ix2 t g)
      * ws (ix2 g ⟨o.val / 128, by omega⟩) := by
  pointwise [k0_pay1]

end Cert.ReferenceIdeal.Read
-- ==== Proof.Target.lean ====
module

public import proofs.«01_k».proof.Proof.RefValue
public import proofs.«01_k».proof.Proof.RefSum

/-! What the three results hold, as functions of the argument matrices. -/

@[expose] public section

noncomputable section

namespace Cert.ReferenceIdeal.Read

open Idealize.ShloMosaic Cert.ReferenceIdeal Cert.ReferenceIdeal.Gen

open scoped BigOperators

/-- The product at row `t`, column `o`. -/
def yAt (X : Vec Ideal S32768x7168 .bf16) (W : Vec Ideal S7168x2304 .fp8e4m3) (S : Vec Ideal S56x18 .f32) (t : Fin 32768) (o : Fin 2304) : EReal :=
  ∑ g : Fin 56, (∑ k : Fin 128, code X t g k * W (ix2 ⟨g.val * 128 + k.val, by omega⟩ o)) * Scale.scale (cnt X t g) * S (ix2 g ⟨o.val / 128, by omega⟩)

/-- The product. -/
def yT (X : Vec Ideal S32768x7168 .bf16) (W : Vec Ideal S7168x2304 .fp8e4m3) (S : Vec Ideal S56x18 .f32) : Vec Ideal S32768x2304 .bf16 :=
  fun j => yAt X W S (j 0) (j 1)

/-- The codes. -/
def qT (X : Vec Ideal S32768x7168 .bf16) : Vec Ideal S32768x7168 .fp8e4m3 :=
  fun j => code X (j 0) ⟨(j 1).val / 128, by have : (j 1).val < 7168 := (j 1).isLt; omega⟩ ⟨(j 1).val % 128, by omega⟩

/-- The scales. -/
def sT (X : Vec Ideal S32768x7168 .bf16) : Vec Ideal S32768x56 .f32 :=
  fun j => Scale.scale (cnt X (j 0) (j 1))

/-- An index of a matrix by its two coordinates. -/
theorem exists_ix2 {a b : ℕ} (j : (⟨2, ![a, b]⟩ : Shape).Idx) : ∃ (t : Fin a) (o : Fin b), j = ix2 t o :=
  ⟨j 0, j 1, by funext x; fin_cases x <;> rfl⟩

/-- The product is its closed form. -/
theorem pay1_eq (X : Vec Ideal S32768x7168 .bf16) (W : Vec Ideal S7168x2304 .fp8e4m3) (S : Vec Ideal S56x18 .f32) (j : S32768x2304.Idx) :
    k0_pay1 (F := Ideal) (k0_pay5 X) (k0_pay6 X) W S j = yT X W S j := by
  obtain ⟨t, o, rfl⟩ := exists_ix2 j
  refine (pay1_at _ _ _ _ _ _).trans ?_
  refine Eq.trans ?_ (show yAt X W S t o = yT X W S (ix2 t o) from rfl)
  unfold yAt
  simp only [pay5_at, pay6_at]

/-- The codes are their closed form. -/
theorem pay2_eq (X : Vec Ideal S32768x7168 .bf16) (j : S32768x7168.Idx) :
    k0_pay2 (F := Ideal) (k0_pay6 X) j = qT X j := by
  obtain ⟨t, o, rfl⟩ := exists_ix2 j
  refine (pay2_at _ _ _).trans ?_
  rw [pay6_at]
  rfl

/-- The scales are theirs. -/
theorem pay5_eq (X : Vec Ideal S32768x7168 .bf16) (j : S32768x56.Idx) :
    k0_pay5 (F := Ideal) X j = sT X j := by
  obtain ⟨t, o, rfl⟩ := exists_ix2 j
  exact pay5_at _ _ _

end Cert.ReferenceIdeal.Read
-- ==== Proof.Rows.lean ====
module

public import proofs.«01_k».proof.Proof.KernelRead
public import proofs.«01_k».proof.Proof.Target

/-! A block of rows of the matrix: the kernel's formulas on the block are the reference's on the rows it holds. -/

@[expose] public section

noncomputable section

namespace KRead

open Idealize.ShloMosaic
open scoped BigOperators

variable {x : Vec Ideal Rolled.S256x7168 .bf16} {X : Vec Ideal Cert.ReferenceIdeal.S32768x7168 .bf16} {r : Fin 256} {t : Fin 32768}
variable (h : ∀ d : Fin 7168, x (ix2 r d) = X (ix2 t d))

include h in
/-- A group's maximum is the same. -/
theorem amax_row (g : Fin 56) : amax x r g = Cert.ReferenceIdeal.Read.amax X t g := by
  unfold amax Cert.ReferenceIdeal.Read.amax
  simp only [h]

include h in
/-- So is its count. -/
theorem cnt_row (g : Fin 56) : cnt x r g = Cert.ReferenceIdeal.Read.cnt X t g := by
  unfold cnt Cert.ReferenceIdeal.Read.cnt
  rw [amax_row h]

include h in
/-- So are its codes. -/
theorem code_row (g : Fin 56) (k : Fin 128) : code x r g k = Cert.ReferenceIdeal.Read.code X t g k := by
  unfold code Cert.ReferenceIdeal.Read.code
  rw [cnt_row h, h]

variable (hx : Bounded x)

include h hx in
/-- The block's scales are those of its rows. -/
theorem scales_row (g : Fin 56) : Rolled.scalesV x (ix2 r g) = Cert.ReferenceIdeal.Read.sT X (ix2 t g) := by
  rw [scalesV_at hx, cnt_row h]
  rfl

include h hx in
/-- The block's codes are those of its rows. -/
theorem codes_row (d : Fin 7168) : Rolled.codesV x (ix2 r d) = Cert.ReferenceIdeal.Read.qT X (ix2 t d) := by
  rw [codesV_at hx, code_row h]
  rfl

include h hx in
/-- The kernel's sum over pairs of groups is the reference's over groups, when the weights are the reference's re-laid. -/
theorem y_row (wt : Vec Ideal Rolled.S28x2304x256 .fp8e4m3) (ws : Vec Ideal Rolled.S56x18x128 .f32)
    (W : Vec Ideal Cert.ReferenceIdeal.S7168x2304 .fp8e4m3) (S : Vec Ideal Cert.ReferenceIdeal.S56x18 .f32)
    (hwt : ∀ (p : Fin 28) (o : Fin 2304) (k : Fin 256), wt (ix3 p o k) = W (ix2 ⟨p.val * 256 + k.val, by omega⟩ o))
    (hws : ∀ (g : Fin 56) (c : Fin 18) (b : Fin 128), ws (ix3 g c b) = S (ix2 g c)) (o : Fin 2304) :
    Rolled.yV x wt ws (ix2 r o) = Cert.ReferenceIdeal.Read.yT X W S (ix2 t o) := by
  refine Eq.trans ?_ (show Cert.ReferenceIdeal.Read.yAt X W S t o = Cert.ReferenceIdeal.Read.yT X W S (ix2 t o) from rfl)
  unfold Cert.ReferenceIdeal.Read.yAt
  rw [yV_at hx, ← sum_groups]
  have e : ∀ (p : Fin 28) (q : Fin 2), term x wt ws r o p q
      = (∑ k : Fin 128, Cert.ReferenceIdeal.Read.code X t ⟨2 * p.val + q.val, by omega⟩ k
          * W (ix2 ⟨(2 * p.val + q.val) * 128 + k.val, by omega⟩ o))
        * Scale.scale (Cert.ReferenceIdeal.Read.cnt X t ⟨2 * p.val + q.val, by omega⟩)
        * S (ix2 ⟨2 * p.val + q.val, by omega⟩ ⟨o.val / 128, by omega⟩) := fun p q => by
    unfold term
    rw [hws, cnt_row h, mul_assoc, mul_comm (S _)]
    refine congrArg (· * _) (Finset.sum_congr rfl fun k _ => ?_)
    rw [hwt, code_row h, mul_comm]
    refine congrArg (fun z => _ * W (ix2 z o)) (Fin.ext ?_)
    show p.val * 256 + (128 * q.val + k.val) = (2 * p.val + q.val) * 128 + k.val
    omega
  refine Finset.sum_congr rfl fun p _ => ?_
  rw [e, e]
  rfl

end KRead
-- ==== Proof.KernelArrays.lean ====
module

public import Idealize.ShloMosaic.Lib.Pipeline.ValueKit
public import Idealize.ShloMosaic.Lib.Claim
public import Idealize.ShloMosaic.Lib.StableHlo.ReadAt
public import proofs.«01_k».proof.Proof.RunIdeal
public import proofs.«01_k».proof.Proof.Rows

/-! The kernel's result arrays after its run. -/

@[expose] public section

noncomputable section

namespace Cert.KernelIdeal.Run

open Idealize.ShloMosaic Idealize.ShloMosaic.Pipeline Cert.KernelIdeal Cert.KernelIdeal.Gen

variable (m : (ℓ : Loc nD τ sig) → Buf (Elt Ideal) ℓ)

/-- The rows, the weights and their scales, as the kernel's call is given them. -/
def xA (c : Dev nD) : Vec Ideal S32768x7168 .bf16 := shapeCast S32768x7168 (m ((c.tc : Thread nD τ).loc main_arg0)) shapeCasts_S8x4096x7168_S32768x7168
/-- The weights. -/
def wA (c : Dev nD) : Vec Ideal S7168x2304 .fp8e4m3 := m ((c.tc : Thread nD τ).loc main_arg1)
/-- The weights' scales. -/
def sA (c : Dev nD) : Vec Ideal S56x18 .f32 := m ((c.tc : Thread nD τ).loc main_arg2)

/-- The block of window 0 at a point. -/
theorem index0 : ∀ t : Fin cfg0.N, win0_0.index t = ![t.val, 0] := (by decide +kernel : ∀ t : Fin grid0.N, _)
/-- The block of window 1 at a point. -/
theorem index1 : ∀ t : Fin cfg0.N, win0_1.index t = ![0, 0, 0] := (by decide +kernel : ∀ t : Fin grid0.N, _)
/-- The block of window 2 at a point. -/
theorem index2 : ∀ t : Fin cfg0.N, win0_2.index t = ![0, 0, 0] := (by decide +kernel : ∀ t : Fin grid0.N, _)
/-- The block of window 3 at a point. -/
theorem index3 : ∀ t : Fin cfg0.N, win0_3.index t = ![t.val, 0] := (by decide +kernel : ∀ t : Fin grid0.N, _)
/-- The block of window 4 at a point. -/
theorem index4 : ∀ t : Fin cfg0.N, win0_4.index t = ![t.val, 0] := (by decide +kernel : ∀ t : Fin grid0.N, _)
/-- The block of window 5 at a point. -/
theorem index5 : ∀ t : Fin cfg0.N, win0_5.index t = ![t.val, 0] := (by decide +kernel : ∀ t : Fin grid0.N, _)

/-- There are 128 points. -/
theorem points (t : Fin cfg0.N) : t.val < 128 := t.isLt

/-- The call finds the rows of the flattened argument. -/
theorem V_rows (c : Dev nD) : V m c main_v4 = xA m c := by
  unfold xA
  entry_read
  rfl

/-- The weights, re-laid by pairs and transposed, at an index. -/
theorem weights_at (c : Dev nD) (p : Fin 28) (o : Fin 2304) (k : Fin 256) :
    V m c main_v1 (ix3 p o k) = wA m c (ix2 ⟨p.val * 256 + k.val, by omega⟩ o) := by
  unfold V
  after_reads_at
  rfl

/-- The weights' scales, spread over the lanes, at an index. -/
theorem scales_at (c : Dev nD) (g : Fin 56) (b : Fin 18) (a : Fin 128) :
    V m c main_v3 (ix3 g b a) = sA m c (ix2 g b) := by
  unfold V
  after_reads_at
  rfl

/-- The block of rows at a point, at an index. -/
theorem rows_at (c : Dev nD) (t : Fin cfg0.N) (r : Fin 256) (d : Fin 7168) :
    xB m c t (ix2 r d) = xA m c (ix2 ⟨256 * t.val + r.val, by have := points t; omega⟩ d) := by
  rw [← V_rows]
  unfold xB
  blk_simp [iblk]
  refine congrArg (V m c main_v4) ?_
  blk_ext [index0 t]

/-- The weights at a point, at an index. -/
theorem wB_at (c : Dev nD) (t : Fin cfg0.N) (p : Fin 28) (o : Fin 2304) (k : Fin 256) :
    wB m c t (ix3 p o k) = wA m c (ix2 ⟨p.val * 256 + k.val, by omega⟩ o) := by
  rw [← weights_at]
  unfold wB
  blk_simp [iblk]
  refine congrArg (V m c main_v1) ?_
  blk_ext [index1 t]

/-- The weights' scales at a point, at an index. -/
theorem wsB_at (c : Dev nD) (t : Fin cfg0.N) (g : Fin 56) (b : Fin 18) (a : Fin 128) :
    wsB m c t (ix3 g b a) = sA m c (ix2 g b) := by
  rw [← scales_at m c g b a]
  unfold wsB
  blk_simp [iblk]
  refine congrArg (V m c main_v3) ?_
  blk_ext [index2 t]

variable (hx : ∀ c t, KRead.Bounded (xB m c t))

include hx in
/-- The first result is the product. -/
theorem final3 (c : Dev nD) : (dats m 0 c).arrAt 3 cfg0.N = Cert.ReferenceIdeal.Read.yT (xA m c) (wA m c) (sA m c) := by
  refine (dats m 0 c).arrAt_eq_of_covers 3 _ (by decide +kernel) fun t hf y => ?_
  blk_simp
  rw [after0_3]
  obtain ⟨r, o, rfl⟩ := Cert.ReferenceIdeal.Read.exists_ix2 (a := 256) (b := 2304) y
  refine (KRead.y_row (rows_at m c t r) (hx c t) (wB m c t) (wsB m c t) (wA m c) (sA m c) (wB_at m c t) (wsB_at m c t) o).trans
    (congrArg (Cert.ReferenceIdeal.Read.yT (xA m c) (wA m c) (sA m c)) ?_)
  blk_ext [index3 t]

include hx in
/-- The second is the codes. -/
theorem final4 (c : Dev nD) : (dats m 0 c).arrAt 4 cfg0.N = Cert.ReferenceIdeal.Read.qT (xA m c) := by
  refine (dats m 0 c).arrAt_eq_of_covers 4 _ (by decide +kernel) fun t hf y => ?_
  blk_simp
  rw [after0_4]
  obtain ⟨r, o, rfl⟩ := Cert.ReferenceIdeal.Read.exists_ix2 (a := 256) (b := 7168) y
  refine (KRead.codes_row (rows_at m c t r) (hx c t) o).trans (congrArg (Cert.ReferenceIdeal.Read.qT (xA m c)) ?_)
  blk_ext [index4 t]

include hx in
/-- The third is the scales. -/
theorem final5 (c : Dev nD) : (dats m 0 c).arrAt 5 cfg0.N = Cert.ReferenceIdeal.Read.sT (xA m c) := by
  refine (dats m 0 c).arrAt_eq_of_covers 5 _ (by decide +kernel) fun t hf y => ?_
  blk_simp
  rw [after0_5]
  obtain ⟨r, o, rfl⟩ := Cert.ReferenceIdeal.Read.exists_ix2 (a := 256) (b := 56) y
  refine (KRead.scales_row (rows_at m c t r) (hx c t) o).trans (congrArg (Cert.ReferenceIdeal.Read.sT (xA m c)) ?_)
  blk_ext [index5 t]

end Cert.KernelIdeal.Run
-- ==== Proof.RefArrays.lean ====
module

public import Idealize.ShloMosaic.Lib.Pipeline.ValueKit
public import Idealize.ShloMosaic.Lib.Claim
public import proofs.«01_k».proof.Proof.Gen.ReferenceIdeal.Value
public import proofs.«01_k».proof.Proof.Target

/-! The reference's result arrays after its run. -/

@[expose] public section

noncomputable section

namespace Cert.ReferenceIdeal.Read

open Idealize.ShloMosaic Idealize.ShloMosaic.Pipeline Cert.ReferenceIdeal Cert.ReferenceIdeal.Gen

variable (m : (ℓ : Loc nD τ sig) → Buf (Elt Ideal) ℓ)

/-- The rows, as the reference's call finds them. -/
def xA (c : Dev nD) : Vec Ideal S32768x7168 .bf16 := V m c main_v0
/-- The weights. -/
def wA (c : Dev nD) : Vec Ideal S7168x2304 .fp8e4m3 := V m c main_arg1
/-- The weights' scales. -/
def sA (c : Dev nD) : Vec Ideal S56x18 .f32 := V m c main_arg2

/-- Two zero offsets. -/
theorem zeroes : (![0, 0] : Fin 2 → Nat) = fun _ => 0 := by funext a; match a with | 0 => rfl | 1 => rfl

/-- The block of window 0 is at the origin. -/
theorem index0 : ∀ t : Fin cfg0.N, win0_0.index t = ![0, 0] := (by decide +kernel : ∀ t : Fin grid0.N, _)
/-- The block of window 1 is at the origin. -/
theorem index1 : ∀ t : Fin cfg0.N, win0_1.index t = ![0, 0] := (by decide +kernel : ∀ t : Fin grid0.N, _)
/-- The block of window 2 is at the origin. -/
theorem index2 : ∀ t : Fin cfg0.N, win0_2.index t = ![0, 0] := (by decide +kernel : ∀ t : Fin grid0.N, _)
/-- The block of window 3 is at the origin. -/
theorem index3 : ∀ t : Fin cfg0.N, win0_3.index t = ![0, 0] := (by decide +kernel : ∀ t : Fin grid0.N, _)
/-- The block of window 4 is at the origin. -/
theorem index4 : ∀ t : Fin cfg0.N, win0_4.index t = ![0, 0] := (by decide +kernel : ∀ t : Fin grid0.N, _)
/-- The block of window 5 is at the origin. -/
theorem index5 : ∀ t : Fin cfg0.N, win0_5.index t = ![0, 0] := (by decide +kernel : ∀ t : Fin grid0.N, _)

/-- The block of window 0 is the whole array. -/
theorem block0 (c : Dev nD) (t : Fin cfg0.N) : iblk m c 0 t = xA m c := by
  funext y
  unfold xA
  blk_simp [iblk]
  refine congrArg (V m c main_v0) ?_
  blk_ext [index0 t]

/-- The block of window 1 is the whole array. -/
theorem block1 (c : Dev nD) (t : Fin cfg0.N) : iblk m c 1 t = wA m c := by
  funext y
  unfold wA
  blk_simp [iblk]
  refine congrArg (V m c main_arg1) ?_
  blk_ext [index1 t]

/-- The block of window 2 is the whole array. -/
theorem block2 (c : Dev nD) (t : Fin cfg0.N) : iblk m c 2 t = sA m c := by
  funext y
  unfold sA
  blk_simp [iblk]
  refine congrArg (V m c main_arg2) ?_
  blk_ext [index2 t]

/-- The first result is the product. -/
theorem final3 (c : Dev nD) : (dats m 0 c).arrAt 3 cfg0.N = yT (xA m c) (wA m c) (sA m c) := by
  refine (dats m 0 c).arrAt_eq_of_covers 3 _ (by decide +kernel) fun t hf y => ?_
  blk_simp
  rw [after0_3]
  frame_out
  unfold k0_pay7 k0_pay8
  rw [block0, block1, block2, View.ld_unit_zero zeroes]
  refine (pay1_eq _ _ _ y).trans (congrArg (yT (xA m c) (wA m c) (sA m c)) ?_)
  blk_ext [index3 t]

/-- The second is the codes. -/
theorem final4 (c : Dev nD) : (dats m 0 c).arrAt 4 cfg0.N = qT (xA m c) := by
  refine (dats m 0 c).arrAt_eq_of_covers 4 _ (by decide +kernel) fun t hf y => ?_
  blk_simp
  rw [after0_4]
  frame_out
  unfold k0_pay8
  rw [block0, View.ld_unit_zero zeroes]
  refine (pay2_eq _ y).trans (congrArg (qT (xA m c)) ?_)
  blk_ext [index4 t]

/-- The third is the scales. -/
theorem final5 (c : Dev nD) : (dats m 0 c).arrAt 5 cfg0.N = sT (xA m c) := by
  refine (dats m 0 c).arrAt_eq_of_covers 5 _ (by decide +kernel) fun t hf y => ?_
  blk_simp
  rw [after0_5]
  frame_out
  unfold k0_pay7
  rw [block0, View.ld_unit_zero zeroes]
  refine (pay5_eq _ y).trans (congrArg (sT (xA m c)) ?_)
  blk_ext [index5 t]

/-- The rows are the first argument's, flattened. -/
theorem xA_eq (c : Dev nD) : xA m c = shapeCast S32768x7168 (m ((c.tc : Thread nD τ).loc main_arg0)) shapeCasts_S8x4096x7168_S32768x7168 := by
  unfold xA
  entry_read
  rfl

/-- The weights are the second argument. -/
theorem wA_eq (c : Dev nD) : wA m c = m ((c.tc : Thread nD τ).loc main_arg1) := V_main_arg1 m c

/-- The weights' scales are the third. -/
theorem sA_eq (c : Dev nD) : sA m c = m ((c.tc : Thread nD τ).loc main_arg2) := V_main_arg2 m c

end Cert.ReferenceIdeal.Read
-- ==== Proof.Algebraic.lean ====
module

public import proofs.«01_k».proof.Defs
public import proofs.«01_k».proof.Proof.Gen.KernelIdeal
public import proofs.«01_k».proof.Proof.Gen.ReferenceIdeal
public import proofs.«01_k».proof.Proof.KernelArrays
public import proofs.«01_k».proof.Proof.RefArrays

/-! The kernel's three results are the reference's, on finite rows. -/

@[expose] public section

noncomputable section

namespace Cert.Proof

open Idealize.ShloMosaic

/-- The shape relations the precondition takes. -/
theorem facts_pre : Cert.Pre_finite_x.Facts := ⟨by decide⟩

/-! ### Finite rows keep a group's scaled maximum below `2 ^ 126` -/

/-- The largest finite value of the rows' type. -/
theorem largest : Ideal.ofBits .bf16 0x7F7F#16 = ((255 * 2 ^ 120 : ℝ) : EReal) := by
  simp [Ideal.ofBits, Ideal.ieee]

/-- The f32 constant nearest to 1/448. -/
theorem c448_eq : Scale.c448 = ((9586981 / 2 ^ 32 : ℝ) : EReal) := by
  unfold Scale.c448
  simp [Ideal.ofBits, Ideal.ieee]
  rw [← EReal.coe_mul]
  norm_num

/-- Minus infinity. -/
theorem bot_eq : Ideal.ofBits .f32 0xFF800000#32 = ⊥ := by
  simp [Ideal.ofBits, Ideal.ieee]

/-- A finite bf16 value over 448 is below `2 ^ 126`. -/
theorem scaled_lt (a : EReal) (h : a ≤ Ideal.ofBits .bf16 0x7F7F#16) : a * Scale.c448 < Scale.pw 126 := by
  have h0 : (0 : EReal) ≤ Scale.c448 := by
    rw [c448_eq]
    exact EReal.coe_nonneg.2 (by norm_num)
  refine lt_of_le_of_lt (mul_le_mul_of_nonneg_right h h0) ?_
  rw [largest, c448_eq, ← EReal.coe_mul]
  unfold Scale.pw
  exact EReal.coe_lt_coe_iff.2 (by norm_num)

variable [hP : Cert.Pre_finite_x.Facts]

/-- A row value's magnitude is at most the largest finite one. -/
theorem finite_at (a0 : FVec Ideal Cert.Pre_finite_x.S8x4096x7168 .bf16) (a1 : FVec Ideal Cert.Pre_finite_x.S7168x2304 .fp8e4m3)
    (a2 : FVec Ideal Cert.Pre_finite_x.S56x18 .f32) (h : Cert.Pre_finite_x.fn (F := Ideal) a0 a1 a2 = fun _ => 1#1)
    (i : Cert.Pre_finite_x.S8x4096x7168.Idx) : max (a0 i) (-(a0 i)) ≤ Ideal.ofBits .bf16 0x7F7F#16 := by
  have hi := congrFun h i
  have h1 : Ideal.cmp .ole (max (a0 i) (-(a0 i))) (Ideal.ofBits .bf16 0x7F7F#16) = 1#1 := hi
  by_contra hn
  simp [Ideal.cmp, hn] at h1

/-- Under the precondition every block of rows is bounded. -/
theorem bounded (m : (ℓ : Loc Cert.KernelIdeal.nD Cert.KernelIdeal.τ Cert.KernelIdeal.sig) → Buf (Elt Ideal) ℓ)
    (h : Cert.Pre_KernelIdeal_finite_x m) (c : Dev Cert.KernelIdeal.nD) (t : Fin Cert.KernelIdeal.cfg0.N) :
    KRead.Bounded (Cert.KernelIdeal.Run.xB m c t) := by
  intro r g
  refine scaled_lt _ ?_
  unfold KRead.amax
  refine (Finset.fold_max_le _).2 ⟨by rw [bot_eq]; exact bot_le, fun k _ => ?_⟩
  rw [Cert.KernelIdeal.Run.rows_at]
  exact finite_at _ _ _ (h c) _

/-- What the kernel's run leaves in its results, by the arrays' closed forms. -/
theorem run_kernel (m : (ℓ : Loc Cert.KernelIdeal.nD Cert.KernelIdeal.τ Cert.KernelIdeal.sig) → Buf (Elt Ideal) ℓ)
    (g : Dev Cert.KernelIdeal.nD → PrngReg) (h : Cert.Pre_KernelIdeal_finite_x m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v5_0)
        = Cert.ReferenceIdeal.Read.yT (Cert.KernelIdeal.Run.xA m c) (Cert.KernelIdeal.Run.wA m c) (Cert.KernelIdeal.Run.sA m c)
      ∧ r.2.mem ((c.tc : Thread Cert.KernelIdeal.nD Cert.KernelIdeal.τ).loc Cert.KernelIdeal.main_v5_1) = Cert.ReferenceIdeal.Read.qT (Cert.KernelIdeal.Run.xA m c)
      ∧ r.2.mem ((c.tc : Thread Cert.KernelIdeal.nD Cert.KernelIdeal.τ).loc Cert.KernelIdeal.main_v5_2) = Cert.ReferenceIdeal.Read.sT (Cert.KernelIdeal.Run.xA m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) := by
  refine θ_run_mono (θ_run_and (Cert.KernelIdeal.Run.unchanged m g) (Cert.KernelIdeal.Run.run_main m g)) fun r hr c => ?_
  exact ⟨((hr.2 c).1 3).trans (Cert.KernelIdeal.Run.final3 m (bounded m h) c), ((hr.2 c).1 4).trans (Cert.KernelIdeal.Run.final4 m (bounded m h) c),
    ((hr.2 c).1 5).trans (Cert.KernelIdeal.Run.final5 m (bounded m h) c), hr.1 c⟩

/-- The value claim: both runs leave the same three arrays, the closed forms at the same arguments. -/
theorem algebraic : Cert.algebraic_KernelIdeal_ReferenceIdeal_pre_finite_x := by
  intro m g m' g' hpre hagree
  refine ⟨_, _, _, run_kernel m g hpre, θ_run_mono (Cert.ReferenceIdeal.Value.run_blocks m' g') fun r hr c => ?_⟩
  have hX : Cert.ReferenceIdeal.Read.xA m' c = Cert.KernelIdeal.Run.xA m c := by
    rw [Cert.ReferenceIdeal.Read.xA_eq, (hagree c).1]
    rfl
  have hW : Cert.ReferenceIdeal.Read.wA m' c = Cert.KernelIdeal.Run.wA m c := (Cert.ReferenceIdeal.Read.wA_eq m' c).trans (hagree c).2.1
  have hS : Cert.ReferenceIdeal.Read.sA m' c = Cert.KernelIdeal.Run.sA m c := (Cert.ReferenceIdeal.Read.sA_eq m' c).trans (hagree c).2.2
  obtain ⟨h3, h4, h5, h⟩ := hr c
  refine ⟨h3.trans ?_, h4.trans ?_, h5.trans ?_, h⟩
  · rw [Cert.ReferenceIdeal.Read.final3, hX, hW, hS]
  · rw [Cert.ReferenceIdeal.Read.final4, hX]
  · rw [Cert.ReferenceIdeal.Read.final5, hX]

end Cert.Proof
-- ==== Proof.lean ====
module

public import proofs.«01_k».proof.Defs
public import proofs.«01_k».proof.Proof.RunKernel
public import proofs.«01_k».proof.Proof.RunIdeal
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value

/-! The claims. -/

@[expose] public section

noncomputable section

open Idealize.ShloMosaic

namespace Cert.Proof

/-- The kernel terminates, its arguments unchanged, its counters at zero. -/
theorem frame_kernel : Cert.quiescent_Kernel := fun m ρ _ => Cert.Kernel.Run.frame m ρ

/-- The same over the reals. -/
theorem frame_kernelIdeal : Cert.quiescent_KernelIdeal := fun m ρ _ => Cert.KernelIdeal.Run.frame m ρ

/-- The same of the reference. -/
theorem frame_referenceIdeal : Cert.quiescent_ReferenceIdeal := fun m ρ _ => Cert.ReferenceIdeal.Gen.frame m ρ

/-- Everything claimed. -/
theorem claim : Cert.Claim :=
  ⟨Cert.Kernel.Gen.facts, Cert.KernelIdeal.Gen.facts, Cert.ReferenceIdeal.Gen.facts, facts_pre,
    frame_kernel, frame_kernelIdeal, fun m ρ _ => Cert.KernelIdeal.Run.frame m ρ,
    frame_referenceIdeal, fun m ρ _ => Cert.ReferenceIdeal.Gen.frame m ρ, trivial,
    algebraic (hP := facts_pre)⟩

end Cert.Proof

end
